-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_DiffOut (m : (ℓ : Loc Cert.DiffOut.nD Cert.DiffOut.τ Cert.DiffOut.sig) → Buf (Elt Bits) ℓ) : Prop :=
  True

def Pre_DiffOutIdeal (m : (ℓ : Loc Cert.DiffOutIdeal.nD Cert.DiffOutIdeal.τ Cert.DiffOutIdeal.sig) → Buf (Elt Ideal) ℓ) : Prop :=
  True

def Pre_DiffOutReferenceIdeal (m : (ℓ : Loc Cert.DiffOutReferenceIdeal.nD Cert.DiffOutReferenceIdeal.τ Cert.DiffOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_SharedUp (m : (ℓ : Loc Cert.SharedUp.nD Cert.SharedUp.τ Cert.SharedUp.sig) → Buf (Elt Bits) ℓ) : Prop :=
  True

def Pre_SharedUpIdeal (m : (ℓ : Loc Cert.SharedUpIdeal.nD Cert.SharedUpIdeal.τ Cert.SharedUpIdeal.sig) → Buf (Elt Ideal) ℓ) : Prop :=
  True

def Pre_SharedUpReferenceIdeal (m : (ℓ : Loc Cert.SharedUpReferenceIdeal.nD Cert.SharedUpReferenceIdeal.τ Cert.SharedUpReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_CtxProj (m : (ℓ : Loc Cert.CtxProj.nD Cert.CtxProj.τ Cert.CtxProj.sig) → Buf (Elt Bits) ℓ) : Prop :=
  True

def Pre_CtxProjIdeal (m : (ℓ : Loc Cert.CtxProjIdeal.nD Cert.CtxProjIdeal.τ Cert.CtxProjIdeal.sig) → Buf (Elt Ideal) ℓ) : Prop :=
  True

def Pre_CtxProjReferenceIdeal (m : (ℓ : Loc Cert.CtxProjReferenceIdeal.nD Cert.CtxProjReferenceIdeal.τ Cert.CtxProjReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1)
      ∧ r.2.mem ((c.tc : Thread Cert.RetOutReferenceIdeal.nD Cert.RetOutReferenceIdeal.τ).loc Cert.RetOutReferenceIdeal.main_arg2) = m ((c.tc : Thread Cert.RetOutReferenceIdeal.nD Cert.RetOutReferenceIdeal.τ).loc Cert.RetOutReferenceIdeal.main_arg2))
      ∧ r.2.sem = fun _ => 0)

def quiescent_DiffOut [hDiffOut : Cert.DiffOut.Facts] : Prop :=
  ∀ (m : (ℓ : Loc Cert.DiffOut.nD Cert.DiffOut.τ Cert.DiffOut.sig) → Buf (Elt Bits) ℓ) (g : Dev Cert.DiffOut.nD → PrngReg), Pre_DiffOut m →
    θ_run (Cert.DiffOut.defs (F := Bits)) (onTc (τ := Cert.DiffOut.τ) (Cert.DiffOut.main (F := Bits))) ⟨m, fun _ => 0, g⟩ (fun r => (∀ c : Dev Cert.DiffOut.nD,
      r.2.mem ((c.tc : Thread Cert.DiffOut.nD Cert.DiffOut.τ).loc Cert.DiffOut.main_arg0) = m ((c.tc : Thread Cert.DiffOut.nD Cert.DiffOut.τ).loc Cert.DiffOut.main_arg0)
      ∧ r.2.mem ((c.tc : Thread Cert.DiffOut.nD Cert.DiffOut.τ).loc Cert.DiffOut.main_arg1) = m ((c.tc : Thread Cert.DiffOut.nD Cert.DiffOut.τ).loc Cert.DiffOut.main_arg1)
      ∧ r.2.mem ((c.tc : Thread Cert.DiffOut.nD Cert.DiffOut.τ).loc Cert.DiffOut.main_arg2) = m ((c.tc : Thread Cert.DiffOut.nD Cert.DiffOut.τ).loc Cert.DiffOut.main_arg2)
      ∧ r.2.mem ((c.tc : Thread Cert.DiffOut.nD Cert.DiffOut.τ).loc Cert.DiffOut.main_arg3) = m ((c.tc : Thread Cert.DiffOut.nD Cert.DiffOut.τ).loc Cert.DiffOut.main_arg3))
      ∧ r.2.sem = fun _ => 0)

def quiescent_DiffOutIdeal [hDiffOutIdeal : Cert.DiffOutIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg), Pre_DiffOutIdeal m →
    θ_run (Cert.DiffOutIdeal.defs (F := Ideal)) (onTc (τ := Cert.DiffOutIdeal.τ) (Cert.DiffOutIdeal.main (F := Ideal))) ⟨m, fun _ => 0, g⟩ (fun r => (∀ c : Dev Cert.DiffOutIdeal.nD,
      r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
      ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1)
      ∧ r.2.mem ((c.tc : Thread Cert.DiffOutIdeal.nD Cert.DiffOutIdeal.τ).loc Cert.DiffOutIdeal.main_arg2) = m ((c.tc : Thread Cert.DiffOutIdeal.nD Cert.DiffOutIdeal.τ).loc Cert.DiffOutIdeal.main_arg2)
      ∧ r.2.mem ((c.tc : Thread Cert.DiffOutIdeal.nD Cert.DiffOutIdeal.τ).loc Cert.DiffOutIdeal.main_arg3) = m ((c.tc : Thread Cert.DiffOutIdeal.nD Cert.DiffOutIdeal.τ).loc Cert.DiffOutIdeal.main_arg3))
      ∧ r.2.sem = fun _ => 0)

def quiescent_DiffOutReferenceIdeal [hDiffOutReferenceIdeal : Cert.DiffOutReferenceIdeal.Facts] : Prop :=
  ∀ (m : (ℓ : Loc Cert.DiffOutReferenceIdeal.nD Cert.DiffOutReferenceIdeal.τ Cert.DiffOutReferenceIdeal.sig) → Buf (Elt Ideal) ℓ) (g : Dev Cert.DiffOutReferenceIdeal.nD → PrngReg), Pre_DiffOutReferenceIdeal m →
    θ_run (Cert.DiffOutReferenceIdeal.defs (F := Ideal)) (onTc (τ := Cert.DiffOutReferenceIdeal.τ) (Cert.DiffOutReferenceIdeal.main (F := Ideal))) ⟨m, fun _ => 0, g⟩ (fun r => (∀ c : Dev Cert.DiffOutReferenceIdeal.nD,
      r.2.mem ((c.tc : Thread Cert.DiffOutReferenceIdeal.nD Cert.DiffOutReferenceIdeal.τ).loc Cert.DiffOutReferenceIdeal.main_arg0) = m ((c.tc : Thread Cert.DiffOutReferenceIdeal.nD Cert.DiffOutReferenceIdeal.τ).loc Cert.DiffOutReferenceIdeal.main_arg0)
      ∧ r.2.mem ((c.tc : Thread Cert.DiffOutReferenceIdeal.nD Cert.DiffOutReferenceIdeal.τ).loc Cert.DiffOutReferenceIdeal.main_arg1) = m ((c.tc : Thread Cert.DiffOutReferenceIdeal.nD Cert.DiffOutReferenceIdeal.τ).loc Cert.DiffOutReferenceIdeal.main_arg1)
      ∧ r.2.mem ((c.tc : Thread Cert.DiffOutReferenceIdeal.nD Cert.DiffOutReferenceIdeal.τ).loc Cert.DiffOutReferenceIdeal.main_arg2) = m ((c.tc : Thread Cert.DiffOutReferenceIdeal.nD Cert.DiffOutReferenceIdeal.τ).loc Cert.DiffOutReferenceIdeal.main_arg2)
      ∧ r.2.mem ((c.tc : Thread Cert.DiffOutReferenceIdeal.nD Cert.DiffOutReferenceIdeal.τ).loc Cert.DiffOutReferenceIdeal.main_arg3) = m ((c.tc : Thread Cert.DiffOutReferenceIdeal.nD Cert.DiffOutReferenceIdeal.τ).loc Cert.DiffOutReferenceIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_SharedUp [hSharedUp : Cert.SharedUp.Facts] : Prop :=
  ∀ (m : (ℓ : Loc Cert.SharedUp.nD Cert.SharedUp.τ Cert.SharedUp.sig) → Buf (Elt Bits) ℓ) (g : Dev Cert.SharedUp.nD → PrngReg), Pre_SharedUp m →
    θ_run (Cert.SharedUp.defs (F := Bits)) (onTc (τ := Cert.SharedUp.τ) (Cert.SharedUp.main (F := Bits))) ⟨m, fun _ => 0, g⟩ (fun r => (∀ c : Dev Cert.SharedUp.nD,
      r.2.mem ((c.tc : Thread Cert.SharedUp.nD Cert.SharedUp.τ).loc Cert.SharedUp.main_arg0) = m ((c.tc : Thread Cert.SharedUp.nD Cert.SharedUp.τ).loc Cert.SharedUp.main_arg0)
      ∧ r.2.mem ((c.tc : Thread Cert.SharedUp.nD Cert.SharedUp.τ).loc Cert.SharedUp.main_arg1) = m ((c.tc : Thread Cert.SharedUp.nD Cert.SharedUp.τ).loc Cert.SharedUp.main_arg1))
      ∧ r.2.sem = fun _ => 0)

def quiescent_SharedUpIdeal [hSharedUpIdeal : Cert.SharedUpIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg), Pre_SharedUpIdeal m →
    θ_run (Cert.SharedUpIdeal.defs (F := Ideal)) (onTc (τ := Cert.SharedUpIdeal.τ) (Cert.SharedUpIdeal.main (F := Ideal))) ⟨m, fun _ => 0, g⟩ (fun r => (∀ c : Dev Cert.SharedUpIdeal.nD,
      r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
      ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1))
      ∧ r.2.sem = fun _ => 0)

def quiescent_SharedUpReferenceIdeal [hSharedUpReferenceIdeal : Cert.SharedUpReferenceIdeal.Facts] : Prop :=
  ∀ (m : (ℓ : Loc Cert.SharedUpReferenceIdeal.nD Cert.SharedUpReferenceIdeal.τ Cert.SharedUpReferenceIdeal.sig) → Buf (Elt Ideal) ℓ) (g : Dev Cert.SharedUpReferenceIdeal.nD → PrngReg), Pre_SharedUpReferenceIdeal m →
    θ_run (Cert.SharedUpReferenceIdeal.defs (F := Ideal)) (onTc (τ := Cert.SharedUpReferenceIdeal.τ) (Cert.SharedUpReferenceIdeal.main (F := Ideal))) ⟨m, fun _ => 0, g⟩ (fun r => (∀ c : Dev Cert.SharedUpReferenceIdeal.nD,
      r.2.mem ((c.tc : Thread Cert.SharedUpReferenceIdeal.nD Cert.SharedUpReferenceIdeal.τ).loc Cert.SharedUpReferenceIdeal.main_arg0) = m ((c.tc : Thread Cert.SharedUpReferenceIdeal.nD Cert.SharedUpReferenceIdeal.τ).loc Cert.SharedUpReferenceIdeal.main_arg0)
      ∧ r.2.mem ((c.tc : Thread Cert.SharedUpReferenceIdeal.nD Cert.SharedUpReferenceIdeal.τ).loc Cert.SharedUpReferenceIdeal.main_arg1) = m ((c.tc : Thread Cert.SharedUpReferenceIdeal.nD Cert.SharedUpReferenceIdeal.τ).loc Cert.SharedUpReferenceIdeal.main_arg1))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3)
      ∧ r.2.mem ((c.tc : Thread Cert.FinalReferenceIdeal.nD Cert.FinalReferenceIdeal.τ).loc Cert.FinalReferenceIdeal.main_arg4) = m ((c.tc : Thread Cert.FinalReferenceIdeal.nD Cert.FinalReferenceIdeal.τ).loc Cert.FinalReferenceIdeal.main_arg4)
      ∧ r.2.mem ((c.tc : Thread Cert.FinalReferenceIdeal.nD Cert.FinalReferenceIdeal.τ).loc Cert.FinalReferenceIdeal.main_arg5) = m ((c.tc : Thread Cert.FinalReferenceIdeal.nD Cert.FinalReferenceIdeal.τ).loc Cert.FinalReferenceIdeal.main_arg5))
      ∧ r.2.sem = fun _ => 0)

def quiescent_CtxProj [hCtxProj : Cert.CtxProj.Facts] : Prop :=
  ∀ (m : (ℓ : Loc Cert.CtxProj.nD Cert.CtxProj.τ Cert.CtxProj.sig) → Buf (Elt Bits) ℓ) (g : Dev Cert.CtxProj.nD → PrngReg), Pre_CtxProj m →
    θ_run (Cert.CtxProj.defs (F := Bits)) (onTc (τ := Cert.CtxProj.τ) (Cert.CtxProj.main (F := Bits))) ⟨m, fun _ => 0, g⟩ (fun r => (∀ c : Dev Cert.CtxProj.nD,
      r.2.mem ((c.tc : Thread Cert.CtxProj.nD Cert.CtxProj.τ).loc Cert.CtxProj.main_arg0) = m ((c.tc : Thread Cert.CtxProj.nD Cert.CtxProj.τ).loc Cert.CtxProj.main_arg0)
      ∧ r.2.mem ((c.tc : Thread Cert.CtxProj.nD Cert.CtxProj.τ).loc Cert.CtxProj.main_arg1) = m ((c.tc : Thread Cert.CtxProj.nD Cert.CtxProj.τ).loc Cert.CtxProj.main_arg1))
      ∧ r.2.sem = fun _ => 0)

def quiescent_CtxProjIdeal [hCtxProjIdeal : Cert.CtxProjIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg), Pre_CtxProjIdeal m →
    θ_run (Cert.CtxProjIdeal.defs (F := Ideal)) (onTc (τ := Cert.CtxProjIdeal.τ) (Cert.CtxProjIdeal.main (F := Ideal))) ⟨m, fun _ => 0, g⟩ (fun r => (∀ c : Dev Cert.CtxProjIdeal.nD,
      r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
      ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1))
      ∧ r.2.sem = fun _ => 0)

def quiescent_CtxProjReferenceIdeal [hCtxProjReferenceIdeal : Cert.CtxProjReferenceIdeal.Facts] : Prop :=
  ∀ (m : (ℓ : Loc Cert.CtxProjReferenceIdeal.nD Cert.CtxProjReferenceIdeal.τ Cert.CtxProjReferenceIdeal.sig) → Buf (Elt Ideal) ℓ) (g : Dev Cert.CtxProjReferenceIdeal.nD → PrngReg), Pre_CtxProjReferenceIdeal m →
    θ_run (Cert.CtxProjReferenceIdeal.defs (F := Ideal)) (onTc (τ := Cert.CtxProjReferenceIdeal.τ) (Cert.CtxProjReferenceIdeal.main (F := Ideal))) ⟨m, fun _ => 0, g⟩ (fun r => (∀ c : Dev Cert.CtxProjReferenceIdeal.nD,
      r.2.mem ((c.tc : Thread Cert.CtxProjReferenceIdeal.nD Cert.CtxProjReferenceIdeal.τ).loc Cert.CtxProjReferenceIdeal.main_arg0) = m ((c.tc : Thread Cert.CtxProjReferenceIdeal.nD Cert.CtxProjReferenceIdeal.τ).loc Cert.CtxProjReferenceIdeal.main_arg0)
      ∧ r.2.mem ((c.tc : Thread Cert.CtxProjReferenceIdeal.nD Cert.CtxProjReferenceIdeal.τ).loc Cert.CtxProjReferenceIdeal.main_arg1) = m ((c.tc : Thread Cert.CtxProjReferenceIdeal.nD Cert.CtxProjReferenceIdeal.τ).loc Cert.CtxProjReferenceIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)
      ∧ m' ((c.tc : Thread Cert.RetOutReferenceIdeal.nD Cert.RetOutReferenceIdeal.τ).loc Cert.RetOutReferenceIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v2)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v2) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v13) = v0 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1)
          ∧ r.2.mem ((c.tc : Thread Cert.RetOutReferenceIdeal.nD Cert.RetOutReferenceIdeal.τ).loc Cert.RetOutReferenceIdeal.main_arg2) = m' ((c.tc : Thread Cert.RetOutReferenceIdeal.nD Cert.RetOutReferenceIdeal.τ).loc Cert.RetOutReferenceIdeal.main_arg2))

def preserves_DiffOut_DiffOutIdeal : Prop :=
  True

def algebraic_DiffOutIdeal_DiffOutReferenceIdeal [hDiffOutIdeal : Cert.DiffOutIdeal.Facts] [hDiffOutReferenceIdeal : Cert.DiffOutReferenceIdeal.Facts] : Prop :=
  ∀ (m : (ℓ : Loc Cert.DiffOutIdeal.nD Cert.DiffOutIdeal.τ Cert.DiffOutIdeal.sig) → Buf (Elt Ideal) ℓ) (g : Dev Cert.DiffOutIdeal.nD → PrngReg)
    (m' : (ℓ : Loc Cert.DiffOutReferenceIdeal.nD Cert.DiffOutReferenceIdeal.τ Cert.DiffOutReferenceIdeal.sig) → Buf (Elt Ideal) ℓ) (g' : Dev Cert.DiffOutReferenceIdeal.nD → PrngReg), Pre_DiffOutIdeal m →
    (∀ c : Dev Cert.DiffOutIdeal.nD,
      m' ((c.tc : Thread Cert.DiffOutReferenceIdeal.nD Cert.DiffOutReferenceIdeal.τ).loc Cert.DiffOutReferenceIdeal.main_arg0) = m ((c.tc : Thread Cert.DiffOutIdeal.nD Cert.DiffOutIdeal.τ).loc Cert.DiffOutIdeal.main_arg0)
      ∧ m' ((c.tc : Thread Cert.DiffOutReferenceIdeal.nD Cert.DiffOutReferenceIdeal.τ).loc Cert.DiffOutReferenceIdeal.main_arg1) = m ((c.tc : Thread Cert.DiffOutIdeal.nD Cert.DiffOutIdeal.τ).loc Cert.DiffOutIdeal.main_arg1)
      ∧ m' ((c.tc : Thread Cert.DiffOutReferenceIdeal.nD Cert.DiffOutReferenceIdeal.τ).loc Cert.DiffOutReferenceIdeal.main_arg2) = m ((c.tc : Thread Cert.DiffOutIdeal.nD Cert.DiffOutIdeal.τ).loc Cert.DiffOutIdeal.main_arg2)
      ∧ m' ((c.tc : Thread Cert.DiffOutReferenceIdeal.nD Cert.DiffOutReferenceIdeal.τ).loc Cert.DiffOutReferenceIdeal.main_arg3) = m ((c.tc : Thread Cert.DiffOutIdeal.nD Cert.DiffOutIdeal.τ).loc Cert.DiffOutIdeal.main_arg3)) →
    ∃ (v0 : (c : Dev Cert.DiffOutIdeal.nD) → Buf (Elt Ideal) ((c.tc : Thread Cert.DiffOutIdeal.nD Cert.DiffOutIdeal.τ).loc Cert.DiffOutIdeal.main_v2)),
      θ_run (Cert.DiffOutIdeal.defs (F := Ideal)) (onTc (τ := Cert.DiffOutIdeal.τ) (Cert.DiffOutIdeal.main (F := Ideal))) ⟨m, fun _ => 0, g⟩ (fun r => ∀ c : Dev Cert.DiffOutIdeal.nD,
          r.2.mem ((c.tc : Thread Cert.DiffOutIdeal.nD Cert.DiffOutIdeal.τ).loc Cert.DiffOutIdeal.main_v2) = v0 c
          ∧ r.2.mem ((c.tc : Thread Cert.DiffOutIdeal.nD Cert.DiffOutIdeal.τ).loc Cert.DiffOutIdeal.main_arg0) = m ((c.tc : Thread Cert.DiffOutIdeal.nD Cert.DiffOutIdeal.τ).loc Cert.DiffOutIdeal.main_arg0)
          ∧ r.2.mem ((c.tc : Thread Cert.DiffOutIdeal.nD Cert.DiffOutIdeal.τ).loc Cert.DiffOutIdeal.main_arg1) = m ((c.tc : Thread Cert.DiffOutIdeal.nD Cert.DiffOutIdeal.τ).loc Cert.DiffOutIdeal.main_arg1)
          ∧ r.2.mem ((c.tc : Thread Cert.DiffOutIdeal.nD Cert.DiffOutIdeal.τ).loc Cert.DiffOutIdeal.main_arg2) = m ((c.tc : Thread Cert.DiffOutIdeal.nD Cert.DiffOutIdeal.τ).loc Cert.DiffOutIdeal.main_arg2)
          ∧ r.2.mem ((c.tc : Thread Cert.DiffOutIdeal.nD Cert.DiffOutIdeal.τ).loc Cert.DiffOutIdeal.main_arg3) = m ((c.tc : Thread Cert.DiffOutIdeal.nD Cert.DiffOutIdeal.τ).loc Cert.DiffOutIdeal.main_arg3))
      ∧ θ_run (Cert.DiffOutReferenceIdeal.defs (F := Ideal)) (onTc (τ := Cert.DiffOutReferenceIdeal.τ) (Cert.DiffOutReferenceIdeal.main (F := Ideal))) ⟨m', fun _ => 0, g'⟩ (fun r => ∀ c : Dev Cert.DiffOutReferenceIdeal.nD,
          r.2.mem ((c.tc : Thread Cert.DiffOutReferenceIdeal.nD Cert.DiffOutReferenceIdeal.τ).loc Cert.DiffOutReferenceIdeal.main_v15) = v0 c
          ∧ r.2.mem ((c.tc : Thread Cert.DiffOutReferenceIdeal.nD Cert.DiffOutReferenceIdeal.τ).loc Cert.DiffOutReferenceIdeal.main_arg0) = m' ((c.tc : Thread Cert.DiffOutReferenceIdeal.nD Cert.DiffOutReferenceIdeal.τ).loc Cert.DiffOutReferenceIdeal.main_arg0)
          ∧ r.2.mem ((c.tc : Thread Cert.DiffOutReferenceIdeal.nD Cert.DiffOutReferenceIdeal.τ).loc Cert.DiffOutReferenceIdeal.main_arg1) = m' ((c.tc : Thread Cert.DiffOutReferenceIdeal.nD Cert.DiffOutReferenceIdeal.τ).loc Cert.DiffOutReferenceIdeal.main_arg1)
          ∧ r.2.mem ((c.tc : Thread Cert.DiffOutReferenceIdeal.nD Cert.DiffOutReferenceIdeal.τ).loc Cert.DiffOutReferenceIdeal.main_arg2) = m' ((c.tc : Thread Cert.DiffOutReferenceIdeal.nD Cert.DiffOutReferenceIdeal.τ).loc Cert.DiffOutReferenceIdeal.main_arg2)
          ∧ r.2.mem ((c.tc : Thread Cert.DiffOutReferenceIdeal.nD Cert.DiffOutReferenceIdeal.τ).loc Cert.DiffOutReferenceIdeal.main_arg3) = m' ((c.tc : Thread Cert.DiffOutReferenceIdeal.nD Cert.DiffOutReferenceIdeal.τ).loc Cert.DiffOutReferenceIdeal.main_arg3))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v8) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_SharedUp_SharedUpIdeal : Prop :=
  True

def algebraic_SharedUpIdeal_SharedUpReferenceIdeal [hSharedUpIdeal : Cert.SharedUpIdeal.Facts] [hSharedUpReferenceIdeal : Cert.SharedUpReferenceIdeal.Facts] : Prop :=
  ∀ (m : (ℓ : Loc Cert.SharedUpIdeal.nD Cert.SharedUpIdeal.τ Cert.SharedUpIdeal.sig) → Buf (Elt Ideal) ℓ) (g : Dev Cert.SharedUpIdeal.nD → PrngReg)
    (m' : (ℓ : Loc Cert.SharedUpReferenceIdeal.nD Cert.SharedUpReferenceIdeal.τ Cert.SharedUpReferenceIdeal.sig) → Buf (Elt Ideal) ℓ) (g' : Dev Cert.SharedUpReferenceIdeal.nD → PrngReg), Pre_SharedUpIdeal m →
    (∀ c : Dev Cert.SharedUpIdeal.nD,
      m' ((c.tc : Thread Cert.SharedUpReferenceIdeal.nD Cert.SharedUpReferenceIdeal.τ).loc Cert.SharedUpReferenceIdeal.main_arg0) = m ((c.tc : Thread Cert.SharedUpIdeal.nD Cert.SharedUpIdeal.τ).loc Cert.SharedUpIdeal.main_arg0)
      ∧ m' ((c.tc : Thread Cert.SharedUpReferenceIdeal.nD Cert.SharedUpReferenceIdeal.τ).loc Cert.SharedUpReferenceIdeal.main_arg1) = m ((c.tc : Thread Cert.SharedUpIdeal.nD Cert.SharedUpIdeal.τ).loc Cert.SharedUpIdeal.main_arg1)) →
    ∃ (v0 : (c : Dev Cert.SharedUpIdeal.nD) → Buf (Elt Ideal) ((c.tc : Thread Cert.SharedUpIdeal.nD Cert.SharedUpIdeal.τ).loc Cert.SharedUpIdeal.main_v1)),
      θ_run (Cert.SharedUpIdeal.defs (F := Ideal)) (onTc (τ := Cert.SharedUpIdeal.τ) (Cert.SharedUpIdeal.main (F := Ideal))) ⟨m, fun _ => 0, g⟩ (fun r => ∀ c : Dev Cert.SharedUpIdeal.nD,
          r.2.mem ((c.tc : Thread Cert.SharedUpIdeal.nD Cert.SharedUpIdeal.τ).loc Cert.SharedUpIdeal.main_v1) = v0 c
          ∧ r.2.mem ((c.tc : Thread Cert.SharedUpIdeal.nD Cert.SharedUpIdeal.τ).loc Cert.SharedUpIdeal.main_arg0) = m ((c.tc : Thread Cert.SharedUpIdeal.nD Cert.SharedUpIdeal.τ).loc Cert.SharedUpIdeal.main_arg0)
          ∧ r.2.mem ((c.tc : Thread Cert.SharedUpIdeal.nD Cert.SharedUpIdeal.τ).loc Cert.SharedUpIdeal.main_arg1) = m ((c.tc : Thread Cert.SharedUpIdeal.nD Cert.SharedUpIdeal.τ).loc Cert.SharedUpIdeal.main_arg1))
      ∧ θ_run (Cert.SharedUpReferenceIdeal.defs (F := Ideal)) (onTc (τ := Cert.SharedUpReferenceIdeal.τ) (Cert.SharedUpReferenceIdeal.main (F := Ideal))) ⟨m', fun _ => 0, g'⟩ (fun r => ∀ c : Dev Cert.SharedUpReferenceIdeal.nD,
          r.2.mem ((c.tc : Thread Cert.SharedUpReferenceIdeal.nD Cert.SharedUpReferenceIdeal.τ).loc Cert.SharedUpReferenceIdeal.main_v7) = v0 c
          ∧ r.2.mem ((c.tc : Thread Cert.SharedUpReferenceIdeal.nD Cert.SharedUpReferenceIdeal.τ).loc Cert.SharedUpReferenceIdeal.main_arg0) = m' ((c.tc : Thread Cert.SharedUpReferenceIdeal.nD Cert.SharedUpReferenceIdeal.τ).loc Cert.SharedUpReferenceIdeal.main_arg0)
          ∧ r.2.mem ((c.tc : Thread Cert.SharedUpReferenceIdeal.nD Cert.SharedUpReferenceIdeal.τ).loc Cert.SharedUpReferenceIdeal.main_arg1) = m' ((c.tc : Thread Cert.SharedUpReferenceIdeal.nD Cert.SharedUpReferenceIdeal.τ).loc Cert.SharedUpReferenceIdeal.main_arg1))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)
      ∧ m' ((c.tc : Thread Cert.FinalReferenceIdeal.nD Cert.FinalReferenceIdeal.τ).loc Cert.FinalReferenceIdeal.main_arg4) = m ((c.tc : Thread Cert.FinalIdeal.nD Cert.FinalIdeal.τ).loc Cert.FinalIdeal.main_arg4)
      ∧ m' ((c.tc : Thread Cert.FinalReferenceIdeal.nD Cert.FinalReferenceIdeal.τ).loc Cert.FinalReferenceIdeal.main_arg5) = m ((c.tc : Thread Cert.FinalIdeal.nD Cert.FinalIdeal.τ).loc Cert.FinalIdeal.main_arg5)) →
    ∃ (v0 : (c : Dev Cert.FinalIdeal.nD) → Buf (Elt Ideal) ((c.tc : Thread Cert.FinalIdeal.nD Cert.FinalIdeal.τ).loc Cert.FinalIdeal.main_v3)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v3) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v23) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3)
          ∧ r.2.mem ((c.tc : Thread Cert.FinalReferenceIdeal.nD Cert.FinalReferenceIdeal.τ).loc Cert.FinalReferenceIdeal.main_arg4) = m' ((c.tc : Thread Cert.FinalReferenceIdeal.nD Cert.FinalReferenceIdeal.τ).loc Cert.FinalReferenceIdeal.main_arg4)
          ∧ r.2.mem ((c.tc : Thread Cert.FinalReferenceIdeal.nD Cert.FinalReferenceIdeal.τ).loc Cert.FinalReferenceIdeal.main_arg5) = m' ((c.tc : Thread Cert.FinalReferenceIdeal.nD Cert.FinalReferenceIdeal.τ).loc Cert.FinalReferenceIdeal.main_arg5))

def preserves_CtxProj_CtxProjIdeal : Prop :=
  True

def algebraic_CtxProjIdeal_CtxProjReferenceIdeal [hCtxProjIdeal : Cert.CtxProjIdeal.Facts] [hCtxProjReferenceIdeal : Cert.CtxProjReferenceIdeal.Facts] : Prop :=
  ∀ (m : (ℓ : Loc Cert.CtxProjIdeal.nD Cert.CtxProjIdeal.τ Cert.CtxProjIdeal.sig) → Buf (Elt Ideal) ℓ) (g : Dev Cert.CtxProjIdeal.nD → PrngReg)
    (m' : (ℓ : Loc Cert.CtxProjReferenceIdeal.nD Cert.CtxProjReferenceIdeal.τ Cert.CtxProjReferenceIdeal.sig) → Buf (Elt Ideal) ℓ) (g' : Dev Cert.CtxProjReferenceIdeal.nD → PrngReg), Pre_CtxProjIdeal m →
    (∀ c : Dev Cert.CtxProjIdeal.nD,
      m' ((c.tc : Thread Cert.CtxProjReferenceIdeal.nD Cert.CtxProjReferenceIdeal.τ).loc Cert.CtxProjReferenceIdeal.main_arg0) = m ((c.tc : Thread Cert.CtxProjIdeal.nD Cert.CtxProjIdeal.τ).loc Cert.CtxProjIdeal.main_arg0)
      ∧ m' ((c.tc : Thread Cert.CtxProjReferenceIdeal.nD Cert.CtxProjReferenceIdeal.τ).loc Cert.CtxProjReferenceIdeal.main_arg1) = m ((c.tc : Thread Cert.CtxProjIdeal.nD Cert.CtxProjIdeal.τ).loc Cert.CtxProjIdeal.main_arg1)) →
    ∃ (v0 : (c : Dev Cert.CtxProjIdeal.nD) → Buf (Elt Ideal) ((c.tc : Thread Cert.CtxProjIdeal.nD Cert.CtxProjIdeal.τ).loc Cert.CtxProjIdeal.main_v1)),
      θ_run (Cert.CtxProjIdeal.defs (F := Ideal)) (onTc (τ := Cert.CtxProjIdeal.τ) (Cert.CtxProjIdeal.main (F := Ideal))) ⟨m, fun _ => 0, g⟩ (fun r => ∀ c : Dev Cert.CtxProjIdeal.nD,
          r.2.mem ((c.tc : Thread Cert.CtxProjIdeal.nD Cert.CtxProjIdeal.τ).loc Cert.CtxProjIdeal.main_v1) = v0 c
          ∧ r.2.mem ((c.tc : Thread Cert.CtxProjIdeal.nD Cert.CtxProjIdeal.τ).loc Cert.CtxProjIdeal.main_arg0) = m ((c.tc : Thread Cert.CtxProjIdeal.nD Cert.CtxProjIdeal.τ).loc Cert.CtxProjIdeal.main_arg0)
          ∧ r.2.mem ((c.tc : Thread Cert.CtxProjIdeal.nD Cert.CtxProjIdeal.τ).loc Cert.CtxProjIdeal.main_arg1) = m ((c.tc : Thread Cert.CtxProjIdeal.nD Cert.CtxProjIdeal.τ).loc Cert.CtxProjIdeal.main_arg1))
      ∧ θ_run (Cert.CtxProjReferenceIdeal.defs (F := Ideal)) (onTc (τ := Cert.CtxProjReferenceIdeal.τ) (Cert.CtxProjReferenceIdeal.main (F := Ideal))) ⟨m', fun _ => 0, g'⟩ (fun r => ∀ c : Dev Cert.CtxProjReferenceIdeal.nD,
          r.2.mem ((c.tc : Thread Cert.CtxProjReferenceIdeal.nD Cert.CtxProjReferenceIdeal.τ).loc Cert.CtxProjReferenceIdeal.main_v4) = v0 c
          ∧ r.2.mem ((c.tc : Thread Cert.CtxProjReferenceIdeal.nD Cert.CtxProjReferenceIdeal.τ).loc Cert.CtxProjReferenceIdeal.main_arg0) = m' ((c.tc : Thread Cert.CtxProjReferenceIdeal.nD Cert.CtxProjReferenceIdeal.τ).loc Cert.CtxProjReferenceIdeal.main_arg0)
          ∧ r.2.mem ((c.tc : Thread Cert.CtxProjReferenceIdeal.nD Cert.CtxProjReferenceIdeal.τ).loc Cert.CtxProjReferenceIdeal.main_arg1) = m' ((c.tc : Thread Cert.CtxProjReferenceIdeal.nD Cert.CtxProjReferenceIdeal.τ).loc Cert.CtxProjReferenceIdeal.main_arg1))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v144)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v144) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v161) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1))

def Claim : Prop :=
  ∃ (hKernel : Cert.Kernel.Facts) (hKernelIdeal : Cert.KernelIdeal.Facts) (hReferenceIdeal : Cert.ReferenceIdeal.Facts) (hRetOut : Cert.RetOut.Facts) (hRetOutIdeal : Cert.RetOutIdeal.Facts) (hRetOutReferenceIdeal : Cert.RetOutReferenceIdeal.Facts) (hDiffOut : Cert.DiffOut.Facts) (hDiffOutIdeal : Cert.DiffOutIdeal.Facts) (hDiffOutReferenceIdeal : Cert.DiffOutReferenceIdeal.Facts) (hMixOut : Cert.MixOut.Facts) (hMixOutIdeal : Cert.MixOutIdeal.Facts) (hMixOutReferenceIdeal : Cert.MixOutReferenceIdeal.Facts) (hSharedUp : Cert.SharedUp.Facts) (hSharedUpIdeal : Cert.SharedUpIdeal.Facts) (hSharedUpReferenceIdeal : Cert.SharedUpReferenceIdeal.Facts) (hFinal : Cert.Final.Facts) (hFinalIdeal : Cert.FinalIdeal.Facts) (hFinalReferenceIdeal : Cert.FinalReferenceIdeal.Facts) (hCtxProj : Cert.CtxProj.Facts) (hCtxProjIdeal : Cert.CtxProjIdeal.Facts) (hCtxProjReferenceIdeal : Cert.CtxProjReferenceIdeal.Facts) (hInProj : Cert.InProj.Facts) (hInProjIdeal : Cert.InProjIdeal.Facts) (hInProjReferenceIdeal : Cert.InProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_DiffOut (hDiffOut := hDiffOut)
    ∧ quiescent_DiffOutIdeal (hDiffOutIdeal := hDiffOutIdeal)
    ∧ quiescent_DiffOutReferenceIdeal (hDiffOutReferenceIdeal := hDiffOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_SharedUp (hSharedUp := hSharedUp)
    ∧ quiescent_SharedUpIdeal (hSharedUpIdeal := hSharedUpIdeal)
    ∧ quiescent_SharedUpReferenceIdeal (hSharedUpReferenceIdeal := hSharedUpReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_CtxProj (hCtxProj := hCtxProj)
    ∧ quiescent_CtxProjIdeal (hCtxProjIdeal := hCtxProjIdeal)
    ∧ quiescent_CtxProjReferenceIdeal (hCtxProjReferenceIdeal := hCtxProjReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_RetOut_RetOutIdeal
    ∧ algebraic_RetOutIdeal_RetOutReferenceIdeal (hRetOutIdeal := hRetOutIdeal) (hRetOutReferenceIdeal := hRetOutReferenceIdeal)
    ∧ preserves_DiffOut_DiffOutIdeal
    ∧ algebraic_DiffOutIdeal_DiffOutReferenceIdeal (hDiffOutIdeal := hDiffOutIdeal) (hDiffOutReferenceIdeal := hDiffOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_SharedUp_SharedUpIdeal
    ∧ algebraic_SharedUpIdeal_SharedUpReferenceIdeal (hSharedUpIdeal := hSharedUpIdeal) (hSharedUpReferenceIdeal := hSharedUpReferenceIdeal)
    ∧ preserves_Final_FinalIdeal
    ∧ algebraic_FinalIdeal_FinalReferenceIdeal (hFinalIdeal := hFinalIdeal) (hFinalReferenceIdeal := hFinalReferenceIdeal)
    ∧ preserves_CtxProj_CtxProjIdeal
    ∧ algebraic_CtxProjIdeal_CtxProjReferenceIdeal (hCtxProjIdeal := hCtxProjIdeal) (hCtxProjReferenceIdeal := hCtxProjReferenceIdeal)
    ∧ preserves_InProj_InProjIdeal
    ∧ algebraic_InProjIdeal_InProjReferenceIdeal (hInProjIdeal := hInProjIdeal) (hInProjReferenceIdeal := hInProjReferenceIdeal)
-- ==== Pre_finite_scores.lean ====
abbrev S1x4x64 : Shape := ⟨3, ![1, 4, 64]⟩
abbrev S1x128 : Shape := ⟨2, ![1, 128]⟩
abbrev S2x4096x13312 : Shape := ⟨3, ![2, 4096, 13312]⟩
abbrev S2x256x5120 : Shape := ⟨3, ![2, 256, 5120]⟩
abbrev S2x4096x1024 : Shape := ⟨3, ![2, 4096, 1024]⟩
abbrev S_ : Shape := ⟨0, ![]⟩
abbrev S2x256x1024 : Shape := ⟨3, ![2, 256, 1024]⟩

class Facts : Prop where
  slices_S2x4096x13312_S2x4096x1024_0_0_8192 : S2x4096x13312.Slices ![0, 0, 8192] S2x4096x1024
  bitsLt_bf16_f32 : FTy.bits .bf16 < FTy.bits .f32
  bcast_S_S2x4096x1024 : S_.BroadcastsInDim S2x4096x1024 (![] : Fin 0 → Fin S2x4096x1024.rank)
  slices_S2x4096x13312_S2x4096x1024_0_0_3072 : S2x4096x13312.Slices ![0, 0, 3072] S2x4096x1024
  slices_S2x256x5120_S2x256x1024_0_0_3072 : S2x256x5120.Slices ![0, 0, 3072] S2x256x1024
  bcast_S_S2x256x1024 : S_.BroadcastsInDim S2x256x1024 (![] : Fin 0 → Fin S2x256x1024.rank)

variable [Facts]

def fn {F : FTy → Type} [FloatOps F] (main_arg0 : FVec F S1x4x64 .f32) (main_arg1 : FVec F S1x128 .f32) (main_arg2 : FVec F S2x4096x13312 .bf16) (main_arg3 : FVec F S2x256x5120 .bf16) : IVec S2x4096x1024 1 × IVec S2x4096x1024 1 × IVec S2x256x1024 1 :=
  let main_v0 : FVec F S2x4096x1024 .bf16 := (extractStridedSlice S2x4096x1024 ![0, 0, 8192] · slices_S2x4096x13312_S2x4096x1024_0_0_8192) main_arg2
  let main_v1 : FVec F S2x4096x1024 .f32 := (extf .f32 · bitsLt_bf16_f32) main_v0
  let main_v2 : FVec F S2x4096x1024 .f32 := Host.absf main_v1
  let main_cst : FVec F S_ .f32 := constant S_ .f32 0x7F800000#32
  let main_v3 : FVec F S2x4096x1024 .f32 := broadcastInDim S2x4096x1024 ![] bcast_S_S2x4096x1024 main_cst
  let main_v4 : IVec S2x4096x1024 1 := cmpf .olt main_v2 main_v3
  let main_v5 : FVec F S2x4096x1024 .bf16 := (extractStridedSlice S2x4096x1024 ![0, 0, 3072] · slices_S2x4096x13312_S2x4096x1024_0_0_3072) main_arg2
  let main_v6 : FVec F S2x4096x1024 .f32 := (extf .f32 · bitsLt_bf16_f32) main_v5
  let main_v7 : FVec F S2x4096x1024 .f32 := Host.absf main_v6
  let main_cst_0 : FVec F S_ .f32 := constant S_ .f32 0x7F800000#32
  let main_v8 : FVec F S2x4096x1024 .f32 := broadcastInDim S2x4096x1024 ![] bcast_S_S2x4096x1024 main_cst_0
  let main_v9 : IVec S2x4096x1024 1 := cmpf .olt main_v7 main_v8
  let main_v10 : FVec F S2x256x1024 .bf16 := (extractStridedSlice S2x256x1024 ![0, 0, 3072] · slices_S2x256x5120_S2x256x1024_0_0_3072) main_arg3
  let main_v11 : FVec F S2x256x1024 .f32 := (extf .f32 · bitsLt_bf16_f32) main_v10
  let main_v12 : FVec F S2x256x1024 .f32 := Host.absf main_v11
  let main_cst_1 : FVec F S_ .f32 := constant S_ .f32 0x7F800000#32
  let main_v13 : FVec F S2x256x1024 .f32 := broadcastInDim S2x256x1024 ![] bcast_S_S2x256x1024 main_cst_1
  let main_v14 : IVec S2x256x1024 1 := cmpf .olt main_v12 main_v13
  (main_v4, main_v9, main_v14)
-- ==== Kernel.lean ====
abbrev S1x4x64 : Shape := ⟨3, ![1, 4, 64]⟩
abbrev S1x128 : Shape := ⟨2, ![1, 128]⟩
abbrev S2x4096x13312 : Shape := ⟨3, ![2, 4096, 13312]⟩
abbrev S2x256x5120 : Shape := ⟨3, ![2, 256, 5120]⟩
abbrev S4x64 : Shape := ⟨2, ![4, 64]⟩
abbrev S1x64 : Shape := ⟨2, ![1, 64]⟩
abbrev S64 : Shape := ⟨1, ![64]⟩
abbrev S_ : Shape := ⟨0, ![]⟩
abbrev S1x1 : Shape := ⟨2, ![1, 1]⟩
abbrev S128 : Shape := ⟨1, ![128]⟩
abbrev S2x256x1024 : Shape := ⟨3, ![2, 256, 1024]⟩
abbrev S2x4096x1024 : Shape := ⟨3, ![2, 4096, 1024]⟩
abbrev S2x4352x1024 : Shape := ⟨3, ![2, 4352, 1024]⟩
abbrev S1x256x128 : Shape := ⟨3, ![1, 256, 128]⟩
abbrev S1x4352x128 : Shape := ⟨3, ![1, 4352, 128]⟩
abbrev S256x128 : Shape := ⟨2, ![256, 128]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩

abbrev nBuf : Space → Nat
  | .hbm => 37
  | .vmem => 9
  | .smem => 1
  | _ => 0

abbrev bufTy : (tb : Table) → Fin (tcTables nBuf tb) → BufTy
  | .hbm, ⟨0, _⟩ => ⟨S1x4x64, .f32⟩
  | .hbm, ⟨1, _⟩ => ⟨S1x128, .f32⟩
  | .hbm, ⟨2, _⟩ => ⟨S2x4096x13312, .bf16⟩
  | .hbm, ⟨3, _⟩ => ⟨S2x256x5120, .bf16⟩
  | .hbm, ⟨4, _⟩ => ⟨S4x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S2x256x1024, .bf16⟩
  | .hbm, ⟨31, _⟩ => ⟨S2x4096x1024, .bf16⟩
  | .hbm, ⟨32, _⟩ => ⟨S2x4352x1024, .bf16⟩
  | .hbm, ⟨33, _⟩ => ⟨S2x256x1024, .bf16⟩
  | .hbm, ⟨34, _⟩ => ⟨S2x4096x1024, .bf16⟩
  | .hbm, ⟨35, _⟩ => ⟨S2x4352x1024, .bf16⟩
  | .hbm, ⟨36, _⟩ => ⟨S2x4096x1024, .bf16⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x128, .f32⟩
  | .local _ .vmem, ⟨7, _⟩ => ⟨S1x256x128, .bf16⟩
  | .local _ .vmem, ⟨8, _⟩ => ⟨S1x256x128, .bf16⟩
  | .local _ .smem, ⟨0, _⟩ => ⟨S1x1, .f32⟩
  | _, _ => ⟨S1x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S1x4x64 : Shape := ⟨3, ![1, 4, 64]⟩
abbrev S1x128 : Shape := ⟨2, ![1, 128]⟩
abbrev S2x4096x13312 : Shape := ⟨3, ![2, 4096, 13312]⟩
abbrev S2x256x5120 : Shape := ⟨3, ![2, 256, 5120]⟩
abbrev S4x64 : Shape := ⟨2, ![4, 64]⟩
abbrev S1x64 : Shape := ⟨2, ![1, 64]⟩
abbrev S64 : Shape := ⟨1, ![64]⟩
abbrev S_ : Shape := ⟨0, ![]⟩
abbrev S2x4096x1024 : Shape := ⟨3, ![2, 4096, 1024]⟩
abbrev S2x4096x8x2x64 : Shape := ⟨5, ![2, 4096, 8, 2, 64]⟩
abbrev S2x256x1024 : Shape := ⟨3, ![2, 256, 1024]⟩
abbrev S2x4352x1024 : Shape := ⟨3, ![2, 4352, 1024]⟩
abbrev S2x4352x8x2x64 : Shape := ⟨5, ![2, 4352, 8, 2, 64]⟩
abbrev S2x4352x8x128 : Shape := ⟨4, ![2, 4352, 8, 128]⟩
abbrev S2x2x8x4096x4352 : Shape := ⟨5, ![2, 2, 8, 4096, 4352]⟩
abbrev S2x2x8x4096 : Shape := ⟨4, ![2, 2, 8, 4096]⟩
abbrev S2x2x8x4096x1 : Shape := ⟨5, ![2, 2, 8, 4096, 1]⟩
abbrev S2x1x8x4096x4352 : Shape := ⟨5, ![2, 1, 8, 4096, 4352]⟩
abbrev S2x8x4096x4352 : Shape := ⟨4, ![2, 8, 4096, 4352]⟩
abbrev S2x8x128x4096 : Shape := ⟨4, ![2, 8, 128, 4096]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S128 : Shape := ⟨1, ![128]⟩
abbrev S1x1x1x128 : Shape := ⟨4, ![1, 1, 1, 128]⟩

abbrev nBuf : Space → Nat
  | .hbm => 85
  | .vmem => 0
  | .smem => 0
  | _ => 0

abbrev bufTy : (tb : Table) → Fin (tcTables nBuf tb) → BufTy
  | .hbm, ⟨0, _⟩ => ⟨S1x4x64, .f32⟩
  | .hbm, ⟨1, _⟩ => ⟨S1x128, .f32⟩
  | .hbm, ⟨2, _⟩ => ⟨S2x4096x13312, .bf16⟩
  | .hbm, ⟨3, _⟩ => ⟨S2x256x5120, .bf16⟩
  | .hbm, ⟨4, _⟩ => ⟨S4x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096x1024, .bf16⟩
  | .hbm, ⟨25, _⟩ => ⟨S2x4096x1024, .f32⟩
  | .hbm, ⟨26, _⟩ => ⟨S2x4096x8x2x64, .f32⟩
  | .hbm, ⟨27, _⟩ => ⟨S2x4096x1024, .bf16⟩
  | .hbm, ⟨28, _⟩ => ⟨S2x4096x1024, .f32⟩
  | .hbm, ⟨29, _⟩ => ⟨S2x4096x1024, .bf16⟩
  | .hbm, ⟨30, _⟩ => ⟨S2x4096x1024, .f32⟩
  | .hbm, ⟨31, _⟩ => ⟨S2x256x1024, .bf16⟩
  | .hbm, ⟨32, _⟩ => ⟨S2x256x1024, .f32⟩
  | .hbm, ⟨33, _⟩ => ⟨S2x256x1024, .bf16⟩
  | .hbm, ⟨34, _⟩ => ⟨S2x256x1024, .f32⟩
  | .hbm, ⟨35, _⟩ => ⟨S2x4352x1024, .f32⟩
  | .hbm, ⟨36, _⟩ => ⟨S2x4352x8x2x64, .f32⟩
  | .hbm, ⟨37, _⟩ => ⟨S2x4352x1024, .f32⟩
  | .hbm, ⟨38, _⟩ => ⟨S2x4352x8x128, .f32⟩
  | .hbm, ⟨39, _⟩ => ⟨S2x2x8x4096x4352, .f32⟩
  | .hbm, ⟨40, _⟩ => ⟨S_, .f32⟩
  | .hbm, ⟨41, _⟩ => ⟨S2x2x8x4096, .f32⟩
  | .hbm, ⟨42, _⟩ => ⟨S_, .f32⟩
  | .hbm, ⟨43, _⟩ => ⟨S2x2x8x4096, .f32⟩
  | .hbm, ⟨44, _⟩ => ⟨S2x2x8x4096, .f32⟩
  | .hbm, ⟨45, _⟩ => ⟨S2x2x8x4096x1, .f32⟩
  | .hbm, ⟨46, _⟩ => ⟨S2x2x8x4096x4352, .f32⟩
  | .hbm, ⟨47, _⟩ => ⟨S2x2x8x4096x4352, .f32⟩
  | .hbm, ⟨48, _⟩ => ⟨S2x2x8x4096x4352, .f32⟩
  | .hbm, ⟨49, _⟩ => ⟨S_, .f32⟩
  | .hbm, ⟨50, _⟩ => ⟨S2x2x8x4096, .f32⟩
  | .hbm, ⟨51, _⟩ => ⟨S2x2x8x4096x1, .f32⟩
  | .hbm, ⟨52, _⟩ => ⟨S2x2x8x4096x4352, .f32⟩
  | .hbm, ⟨53, _⟩ => ⟨S2x2x8x4096x4352, .f32⟩
  | .hbm, ⟨54, _⟩ => ⟨S2x1x8x4096x4352, .f32⟩
  | .hbm, ⟨55, _⟩ => ⟨S2x8x4096x4352, .f32⟩
  | .hbm, ⟨56, _⟩ => ⟨S2x1x8x4096x4352, .f32⟩
  | .hbm, ⟨57, _⟩ => ⟨S2x8x4096x4352, .f32⟩
  | .hbm, ⟨58, _⟩ => ⟨S2x8x4096x4352, .f32⟩
  | .hbm, ⟨59, _⟩ => ⟨S2x8x4096x4352, .f32⟩
  | .hbm, ⟨60, _⟩ => ⟨S2x8x4096x4352, .f32⟩
  | .hbm, ⟨61, _⟩ => ⟨S2x8x128x4096, .f32⟩
  | .hbm, ⟨62, _⟩ => ⟨S2x4096x8x128, .f32⟩
  | .hbm, ⟨63, _⟩ => ⟨S2x4096x8x128, .f32⟩
  | .hbm, ⟨64, _⟩ => ⟨S_, .f32⟩
  | .hbm, ⟨65, _⟩ => ⟨S2x4096x8, .f32⟩
  | .hbm, ⟨66, _⟩ => ⟨S2x4096x8x1, .f32⟩
  | .hbm, ⟨67, _⟩ => ⟨S_, .f32⟩
  | .hbm, ⟨68, _⟩ => ⟨S2x4096x8x1, .f32⟩
  | .hbm, ⟨69, _⟩ => ⟨S2x4096x8x1, .f32⟩
  | .hbm, ⟨70, _⟩ => ⟨S_, .f32⟩
  | .hbm, ⟨71, _⟩ => ⟨S2x4096x8x1, .f32⟩
  | .hbm, ⟨72, _⟩ => ⟨S2x4096x8x1, .f32⟩
  | .hbm, ⟨73, _⟩ => ⟨S2x4096x8x1, .f32⟩
  | .hbm, ⟨74, _⟩ => ⟨S2x4096x8x128, .f32⟩
  | .hbm, ⟨75, _⟩ => ⟨S2x4096x8x128, .f32⟩
  | .hbm, ⟨76, _⟩ => ⟨S128, .f32⟩
  | .hbm, ⟨77, _⟩ => ⟨S1x1x1x128, .f32⟩
  | .hbm, ⟨78, _⟩ => ⟨S2x4096x8x128, .f32⟩
  | .hbm, ⟨79, _⟩ => ⟨S2x4096x8x128, .f32⟩
  | .hbm, ⟨80, _⟩ => ⟨S_, .f32⟩
  | .hbm, ⟨81, _⟩ => ⟨S2x4096x8x128, .f32⟩
  | .hbm, ⟨82, _⟩ => ⟨S2x4096x8x128, .f32⟩
  | .hbm, ⟨83, _⟩ => ⟨S2x4096x1024, .f32⟩
  | .hbm, ⟨84, _⟩ => ⟨S2x4096x1024, .bf16⟩
  | _, _ => ⟨S1x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_cst_6 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_8 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== RetOut.lean ====
abbrev S1x2048x2048 : Shape := ⟨3, ![1, 2048, 2048]⟩
abbrev S2x4096x2048 : Shape := ⟨3, ![2, 4096, 2048]⟩
abbrev S8192x13312 : Shape := ⟨2, ![8192, 13312]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S2x4096x2048, .bf16⟩
  | .hbm, ⟨2, _⟩ => ⟨S8192x13312, .bf16⟩
  | .hbm, ⟨3, _⟩ => ⟨S8192x2048, .bf16⟩
  | .hbm, ⟨4, _⟩ => ⟨S2048x2048, .f32⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RetOutReferenceIdeal.lean ====
abbrev S1x2048x2048 : Shape := ⟨3, ![1, 2048, 2048]⟩
abbrev S2x4096x2048 : Shape := ⟨3, ![2, 4096, 2048]⟩
abbrev S8192x13312 : Shape := ⟨2, ![8192, 13312]⟩
abbrev S8192x2048 : Shape := ⟨2, ![8192, 2048]⟩
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2x4096x2048, .bf16⟩
  | .hbm, ⟨2, _⟩ => ⟨S8192x13312, .bf16⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== DiffOut.lean ====
abbrev S1x1024x2048 : Shape := ⟨3, ![1, 1024, 2048]⟩
abbrev S2x4096x1024 : Shape := ⟨3, ![2, 4096, 1024]⟩
abbrev S8192x13312 : Shape := ⟨2, ![8192, 13312]⟩
abbrev S8192x2048 : Shape := ⟨2, ![8192, 2048]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 7
  | .vmem => 11
  | .smem => 0
  | _ => 0

abbrev bufTy : (tb : Table) → Fin (tcTables nBuf tb) → BufTy
  | .hbm, ⟨0, _⟩ => ⟨S1x1024x2048, .f32⟩
  | .hbm, ⟨1, _⟩ => ⟨S2x4096x1024, .bf16⟩
  | .hbm, ⟨2, _⟩ => ⟨S8192x13312, .bf16⟩
  | .hbm, ⟨3, _⟩ => ⟨S8192x2048, .bf16⟩
  | .hbm, ⟨4, _⟩ => ⟨S8192x1024, .bf16⟩
  | .hbm, ⟨5, _⟩ => ⟨S1024x2048, .f32⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DiffOutReferenceIdeal.lean ====
abbrev S1x1024x2048 : Shape := ⟨3, ![1, 1024, 2048]⟩
abbrev S2x4096x1024 : Shape := ⟨3, ![2, 4096, 1024]⟩
abbrev S8192x13312 : Shape := ⟨2, ![8192, 13312]⟩
abbrev S8192x2048 : Shape := ⟨2, ![8192, 2048]⟩
abbrev S8192x1024 : Shape := ⟨2, ![8192, 1024]⟩
abbrev S1024x2048 : Shape := ⟨2, ![1024, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S2x4096x1024, .bf16⟩
  | .hbm, ⟨2, _⟩ => ⟨S8192x13312, .bf16⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x1024, .bf16⟩
  | .hbm, ⟨7, _⟩ => ⟨S8192x1024, .f32⟩
  | .hbm, ⟨8, _⟩ => ⟨S1024x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .bf16⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixOut.lean ====
abbrev S1x2048x2048 : Shape := ⟨3, ![1, 2048, 2048]⟩
abbrev S8192x2048 : Shape := ⟨2, ![8192, 2048]⟩
abbrev S2x4096x2048 : Shape := ⟨3, ![2, 4096, 2048]⟩
abbrev S2x2048 : Shape := ⟨2, ![2, 2048]⟩
abbrev S2048x2048 : Shape := ⟨2, ![2048, 2048]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .bf16⟩
  | .hbm, ⟨2, _⟩ => ⟨S2x4096x2048, .f32⟩
  | .hbm, ⟨3, _⟩ => ⟨S2x2048, .f32⟩
  | .hbm, ⟨4, _⟩ => ⟨S2048x2048, .f32⟩
  | .hbm, ⟨5, _⟩ => ⟨S8192x2048, .f32⟩
  | .hbm, ⟨6, _⟩ => ⟨S2x1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixOutReferenceIdeal.lean ====
abbrev S1x2048x2048 : Shape := ⟨3, ![1, 2048, 2048]⟩
abbrev S8192x2048 : Shape := ⟨2, ![8192, 2048]⟩
abbrev S2x4096x2048 : Shape := ⟨3, ![2, 4096, 2048]⟩
abbrev S2x2048 : Shape := ⟨2, ![2, 2048]⟩
abbrev S2048x2048 : Shape := ⟨2, ![2048, 2048]⟩
abbrev S2x1x2048 : Shape := ⟨3, ![2, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .bf16⟩
  | .hbm, ⟨2, _⟩ => ⟨S2x4096x2048, .f32⟩
  | .hbm, ⟨3, _⟩ => ⟨S2x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S2x4096x2048, .f32⟩
  | .hbm, ⟨8, _⟩ => ⟨S2x1x2048, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S8192x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== SharedUp.lean ====
abbrev S1x2048x512 : Shape := ⟨3, ![1, 2048, 512]⟩
abbrev S8192x2048 : Shape := ⟨2, ![8192, 2048]⟩
abbrev S2048x512 : Shape := ⟨2, ![2048, 512]⟩
abbrev S8192x256 : Shape := ⟨2, ![8192, 256]⟩
abbrev S1024x2048 : Shape := ⟨2, ![1024, 2048]⟩
abbrev S1024x256 : Shape := ⟨2, ![1024, 256]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S1x2048x512, .f32⟩
  | .hbm, ⟨1, _⟩ => ⟨S8192x2048, .bf16⟩
  | .hbm, ⟨2, _⟩ => ⟨S2048x512, .f32⟩
  | .hbm, ⟨3, _⟩ => ⟨S8192x256, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S1024x256, .bf16⟩
  | .local _ .vmem, ⟨4, _⟩ => ⟨S1024x256, .bf16⟩
  | .local _ .vmem, ⟨5, _⟩ => ⟨S2048x512, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SharedUpReferenceIdeal.lean ====
abbrev S1x2048x512 : Shape := ⟨3, ![1, 2048, 512]⟩
abbrev S8192x2048 : Shape := ⟨2, ![8192, 2048]⟩
abbrev S2048x512 : Shape := ⟨2, ![2048, 512]⟩
abbrev S8192x512 : Shape := ⟨2, ![8192, 512]⟩
abbrev S8192x256 : Shape := ⟨2, ![8192, 256]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S8192x2048, .bf16⟩
  | .hbm, ⟨2, _⟩ => ⟨S8192x2048, .f32⟩
  | .hbm, ⟨3, _⟩ => ⟨S2048x512, .f32⟩
  | .hbm, ⟨4, _⟩ => ⟨S8192x512, .f32⟩
  | .hbm, ⟨5, _⟩ => ⟨S8192x256, .f32⟩
  | .hbm, ⟨6, _⟩ => ⟨S8192x256, .f32⟩
  | .hbm, ⟨7, _⟩ => ⟨S8192x256, .f32⟩
  | .hbm, ⟨8, _⟩ => ⟨S8192x256, .f32⟩
  | .hbm, ⟨9, _⟩ => ⟨S_, .f32⟩
  | .hbm, ⟨10, _⟩ => ⟨S8192x256, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Final.lean ====
abbrev S1x256x2048 : Shape := ⟨3, ![1, 256, 2048]⟩
abbrev S2048 : Shape := ⟨1, ![2048]⟩
abbrev S8192x256 : Shape := ⟨2, ![8192, 256]⟩
abbrev S8192x2048 : Shape := ⟨2, ![8192, 2048]⟩
abbrev S2x2048 : Shape := ⟨2, ![2, 2048]⟩
abbrev S256x2048 : Shape := ⟨2, ![256, 2048]⟩
abbrev S2x1x2048 : Shape := ⟨3, ![2, 1, 2048]⟩
abbrev S1x2048 : Shape := ⟨2, ![1, 2048]⟩
abbrev S512x256 : Shape := ⟨2, ![512, 256]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S8192x256, .bf16⟩
  | .hbm, ⟨3, _⟩ => ⟨S8192x2048, .f32⟩
  | .hbm, ⟨4, _⟩ => ⟨S8192x2048, .f32⟩
  | .hbm, ⟨5, _⟩ => ⟨S2x2048, .f32⟩
  | .hbm, ⟨6, _⟩ => ⟨S256x2048, .f32⟩
  | .hbm, ⟨7, _⟩ => ⟨S2x1x2048, .f32⟩
  | .hbm, ⟨8, _⟩ => ⟨S1x2048, .f32⟩
  | .hbm, ⟨9, _⟩ => ⟨S8192x2048, .f32⟩
  | .local _ .vmem, ⟨0, _⟩ => ⟨S512x256, .bf16⟩
  | .local _ .vmem, ⟨1, _⟩ => ⟨S512x256, .bf16⟩
  | .local _ .vmem, ⟨2, _⟩ => ⟨S256x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]
-- ==== FinalReferenceIdeal.lean ====
abbrev S1x256x2048 : Shape := ⟨3, ![1, 256, 2048]⟩
abbrev S2048 : Shape := ⟨1, ![2048]⟩
abbrev S8192x256 : Shape := ⟨2, ![8192, 256]⟩
abbrev S8192x2048 : Shape := ⟨2, ![8192, 2048]⟩
abbrev S2x2048 : Shape := ⟨2, ![2, 2048]⟩
abbrev S256x2048 : Shape := ⟨2, ![256, 2048]⟩
abbrev S2x4096x2048 : Shape := ⟨3, ![2, 4096, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2048, .f32⟩
  | .hbm, ⟨2, _⟩ => ⟨S8192x256, .bf16⟩
  | .hbm, ⟨3, _⟩ => ⟨S8192x2048, .f32⟩
  | .hbm, ⟨4, _⟩ => ⟨S8192x2048, .f32⟩
  | .hbm, ⟨5, _⟩ => ⟨S2x2048, .f32⟩
  | .hbm, ⟨6, _⟩ => ⟨S8192x256, .f32⟩
  | .hbm, ⟨7, _⟩ => ⟨S256x2048, .f32⟩
  | .hbm, ⟨8, _⟩ => ⟨S8192x2048, .f32⟩
  | .hbm, ⟨9, _⟩ => ⟨S8192x2048, .f32⟩
  | .hbm, ⟨10, _⟩ => ⟨S2x4096x2048, .f32⟩
  | .hbm, ⟨11, _⟩ => ⟨S2x1x2048, .f32⟩
  | .hbm, ⟨12, _⟩ => ⟨S2x4096x2048, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x2048, .f32⟩
  | .hbm, ⟨28, _⟩ => ⟨S2x4096x2048, .f32⟩
  | .hbm, ⟨29, _⟩ => ⟨S1x1x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== CtxProj.lean ====
abbrev S1x2048x13312 : Shape := ⟨3, ![1, 2048, 13312]⟩
abbrev S512x2048 : Shape := ⟨2, ![512, 2048]⟩
abbrev S2048x13312 : Shape := ⟨2, ![2048, 13312]⟩
abbrev S512x5120 : Shape := ⟨2, ![512, 5120]⟩
abbrev S2048x1024 : Shape := ⟨2, ![2048, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S1x2048x13312, .f32⟩
  | .hbm, ⟨1, _⟩ => ⟨S512x2048, .bf16⟩
  | .hbm, ⟨2, _⟩ => ⟨S2048x13312, .f32⟩
  | .hbm, ⟨3, _⟩ => ⟨S512x5120, .bf16⟩
  | .local _ .vmem, ⟨0, _⟩ => ⟨S512x2048, .bf16⟩
  | .local _ .vmem, ⟨1, _⟩ => ⟨S2048x1024, .f32⟩
  | .local _ .vmem, ⟨2, _⟩ => ⟨S2048x1024, .f32⟩
  | .local _ .vmem, ⟨3, _⟩ => ⟨S512x1024, .bf16⟩
  | .local _ .vmem, ⟨4, _⟩ => ⟨S512x1024, .bf16⟩
  | .local _ .vmem, ⟨5, _⟩ => ⟨S2048x1024, .bf16⟩
  | _, _ => ⟨S1x2048x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== CtxProjReferenceIdeal.lean ====
abbrev S1x2048x13312 : Shape := ⟨3, ![1, 2048, 13312]⟩
abbrev S512x2048 : Shape := ⟨2, ![512, 2048]⟩
abbrev S2048x13312 : Shape := ⟨2, ![2048, 13312]⟩
abbrev S2048x5120 : Shape := ⟨2, ![2048, 5120]⟩
abbrev S512x5120 : Shape := ⟨2, ![512, 5120]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x13312, .f32⟩
  | .hbm, ⟨1, _⟩ => ⟨S512x2048, .bf16⟩
  | .hbm, ⟨2, _⟩ => ⟨S512x2048, .f32⟩
  | .hbm, ⟨3, _⟩ => ⟨S2048x13312, .f32⟩
  | .hbm, ⟨4, _⟩ => ⟨S2048x5120, .f32⟩
  | .hbm, ⟨5, _⟩ => ⟨S512x5120, .f32⟩
  | .hbm, ⟨6, _⟩ => ⟨S512x5120, .bf16⟩
  | _, _ => ⟨S1x2048x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProj.lean ====
abbrev S1x2048x13312 : Shape := ⟨3, ![1, 2048, 13312]⟩
abbrev S8192x2048 : Shape := ⟨2, ![8192, 2048]⟩
abbrev S4096 : Shape := ⟨1, ![4096]⟩
abbrev S_ : Shape := ⟨0, ![]⟩
abbrev S128 : Shape := ⟨1, ![128]⟩
abbrev S1x128 : Shape := ⟨2, ![1, 128]⟩
abbrev S4096x1 : Shape := ⟨2, ![4096, 1]⟩
abbrev S4096x128 : Shape := ⟨2, ![4096, 128]⟩
abbrev S1x4096x128 : Shape := ⟨3, ![1, 4096, 128]⟩
abbrev S3x4096x128 : Shape := ⟨3, ![3, 4096, 128]⟩
abbrev S1x3x4096x128 : Shape := ⟨4, ![1, 3, 4096, 128]⟩
abbrev S4x3x4096x128 : Shape := ⟨4, ![4, 3, 4096, 128]⟩
abbrev S2048x13312 : Shape := ⟨2, ![2048, 13312]⟩
abbrev S8192x13312 : Shape := ⟨2, ![8192, 13312]⟩
abbrev S1024x2048 : Shape := ⟨2, ![1024, 2048]⟩
abbrev S2048x1024 : Shape := ⟨2, ![2048, 1024]⟩
abbrev S1x3x1024x128 : Shape := ⟨4, ![1, 3, 1024, 128]⟩
abbrev S1024x1024 : Shape := ⟨2, ![1024, 1024]⟩
abbrev S1x1x1024x128 : Shape := ⟨4, ![1, 1, 1024, 128]⟩
abbrev S1024x128 : Shape := ⟨2, ![1024, 128]⟩

abbrev nBuf : Space → Nat
  | .hbm => 501
  | .vmem => 9
  | .smem => 0
  | _ => 0

abbrev hbmTy0_0 (i : Nat) : BufTy := match i % 128 with
  | 0 => ⟨S1x2048x13312, .f32⟩
  | 1 => ⟨S8192x2048, .bf16⟩
  | 2 => ⟨S4096, .i32⟩
  | 3 => ⟨S_, .i32⟩
  | 4 => ⟨S_, .i32⟩
  | 5 => ⟨S4096, .i32⟩
  | 6 => ⟨S4096, .i32⟩
  | 7 => ⟨S4096, .i32⟩
  | 8 => ⟨S_, .i32⟩
  | 9 => ⟨S4096, .i32⟩
  | 10 => ⟨S4096, .i1⟩
  | 11 => ⟨S4096, .i32⟩
  | 12 => ⟨S4096, .i32⟩
  | 13 => ⟨S_, .i32⟩
  | 14 => ⟨S4096, .i32⟩
  | 15 => ⟨S4096, .i1⟩
  | 16 => ⟨S4096, .i1⟩
  | 17 => ⟨S_, .i32⟩
  | 18 => ⟨S4096, .i32⟩
  | 19 => ⟨S4096, .i32⟩
  | 20 => ⟨S4096, .i32⟩
  | 21 => ⟨S4096, .f32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i1⟩
  | 33 => ⟨S_, .i32⟩
  | 34 => ⟨S4096, .i32⟩
  | 35 => ⟨S4096, .i1⟩
  | 36 => ⟨S_, .i32⟩
  | 37 => ⟨S_, .i1⟩
  | 38 => ⟨S4096, .i1⟩
  | 39 => ⟨S4096, .i1⟩
  | 40 => ⟨S4096, .i1⟩
  | 41 => ⟨S4096, .i32⟩
  | 42 => ⟨S4096, .i32⟩
  | 43 => ⟨S4096, .i32⟩
  | 44 => ⟨S4096, .f32⟩
  | 45 => ⟨S128, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S128, .i32⟩
  | 53 => ⟨S128, .i32⟩
  | 54 => ⟨S_, .i32⟩
  | 55 => ⟨S128, .i32⟩
  | 56 => ⟨S128, .i1⟩
  | 57 => ⟨S_, .i32⟩
  | 58 => ⟨S128, .i32⟩
  | 59 => ⟨S128, .i1⟩
  | 60 => ⟨S_, .i32⟩
  | 61 => ⟨S_, .i1⟩
  | 62 => ⟨S128, .i1⟩
  | 63 => ⟨S128, .i1⟩
  | 64 => ⟨S128, .i1⟩
  | 65 => ⟨S128, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S128, .i32⟩
  | 78 => ⟨S128, .i32⟩
  | 79 => ⟨S_, .i32⟩
  | 80 => ⟨S128, .i32⟩
  | 81 => ⟨S128, .i1⟩
  | 82 => ⟨S_, .i32⟩
  | 83 => ⟨S128, .i32⟩
  | 84 => ⟨S128, .i1⟩
  | 85 => ⟨S_, .i32⟩
  | 86 => ⟨S_, .i1⟩
  | 87 => ⟨S128, .i1⟩
  | 88 => ⟨S128, .i1⟩
  | 89 => ⟨S128, .i1⟩
  | 90 => ⟨S128, .i32⟩
  | 91 => ⟨S128, .i32⟩
  | 92 => ⟨S128, .i32⟩
  | 93 => ⟨S_, .i32⟩
  | 94 => ⟨S128, .i32⟩
  | 95 => ⟨S128, .i1⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S128, .i32⟩
  | 103 => ⟨S128, .i32⟩
  | 104 => ⟨S_, .i32⟩
  | 105 => ⟨S128, .i32⟩
  | 106 => ⟨S128, .i1⟩
  | 107 => ⟨S_, .i32⟩
  | 108 => ⟨S128, .i32⟩
  | 109 => ⟨S128, .i1⟩
  | 110 => ⟨S_, .i32⟩
  | 111 => ⟨S_, .i1⟩
  | 112 => ⟨S128, .i1⟩
  | 113 => ⟨S128, .i1⟩
  | 114 => ⟨S128, .i1⟩
  | 115 => ⟨S128, .i32⟩
  | 116 => ⟨S128, .i32⟩
  | 117 => ⟨S128, .i32⟩
  | 118 => ⟨S128, .f32⟩
  | 119 => ⟨S128, .f32⟩
  | 120 => ⟨S_, .f32⟩
  | 121 => ⟨S128, .f32⟩
  | 122 => ⟨S128, .f32⟩
  | 123 => ⟨S_, .f32⟩
  | 124 => ⟨S128, .f32⟩
  | 125 => ⟨S128, .f32⟩
  | 126 => ⟨S1x128, .i1⟩
  | 127 => ⟨S4096x1, .f32⟩
  | _ => ⟨S1x2048x13312, .f32⟩

abbrev hbmTy0_1 (i : Nat) : BufTy := match i % 128 with
  | 0 => ⟨S4096x1, .f32⟩
  | 1 => ⟨S4096x128, .i1⟩
  | 2 => ⟨S4096x128, .f32⟩
  | 3 => ⟨S4096x128, .f32⟩
  | 4 => ⟨S4096x128, .f32⟩
  | 5 => ⟨S1x128, .f32⟩
  | 6 => ⟨S4096x128, .f32⟩
  | 7 => ⟨S4096x128, .f32⟩
  | 8 => ⟨S4096x128, .f32⟩
  | 9 => ⟨S4096x128, .f32⟩
  | 10 => ⟨S1x128, .i1⟩
  | 11 => ⟨S4096x128, .f32⟩
  | 12 => ⟨S_, .f32⟩
  | 13 => ⟨S_, .f32⟩
  | 14 => ⟨S4096x128, .i1⟩
  | 15 => ⟨S4096x128, .f32⟩
  | 16 => ⟨S4096x128, .f32⟩
  | 17 => ⟨S1x128, .i1⟩
  | 18 => ⟨S_, .f32⟩
  | 19 => ⟨S_, .f32⟩
  | 20 => ⟨S4096x128, .i1⟩
  | 21 => ⟨S4096x128, .f32⟩
  | 22 => ⟨S4096x128, .f32⟩
  | 23 => ⟨S1x4096x128, .f32⟩
  | 24 => ⟨S1x4096x128, .f32⟩
  | 25 => ⟨S1x4096x128, .f32⟩
  | 26 => ⟨S3x4096x128, .f32⟩
  | 27 => ⟨S_, .f32⟩
  | 28 => ⟨S3x4096x128, .f32⟩
  | 29 => ⟨S3x4096x128, .f32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S128, .i32⟩
  | 37 => ⟨S128, .i32⟩
  | 38 => ⟨S_, .i32⟩
  | 39 => ⟨S128, .i32⟩
  | 40 => ⟨S128, .i1⟩
  | 41 => ⟨S_, .i32⟩
  | 42 => ⟨S128, .i32⟩
  | 43 => ⟨S128, .i1⟩
  | 44 => ⟨S_, .i32⟩
  | 45 => ⟨S_, .i1⟩
  | 46 => ⟨S128, .i1⟩
  | 47 => ⟨S128, .i1⟩
  | 48 => ⟨S128, .i1⟩
  | 49 => ⟨S128, .i32⟩
  | 50 => ⟨S128, .i32⟩
  | 51 => ⟨S128, .i32⟩
  | 52 => ⟨S_, .i32⟩
  | 53 => ⟨S128, .i32⟩
  | 54 => ⟨S128, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S128, .i32⟩
  | 62 => ⟨S128, .i32⟩
  | 63 => ⟨S_, .i32⟩
  | 64 => ⟨S128, .i32⟩
  | 65 => ⟨S128, .i1⟩
  | 66 => ⟨S_, .i32⟩
  | 67 => ⟨S128, .i32⟩
  | 68 => ⟨S128, .i1⟩
  | 69 => ⟨S_, .i32⟩
  | 70 => ⟨S_, .i1⟩
  | 71 => ⟨S128, .i1⟩
  | 72 => ⟨S128, .i1⟩
  | 73 => ⟨S128, .i1⟩
  | 74 => ⟨S128, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S128, .i32⟩
  | 87 => ⟨S128, .i32⟩
  | 88 => ⟨S_, .i32⟩
  | 89 => ⟨S128, .i32⟩
  | 90 => ⟨S128, .i1⟩
  | 91 => ⟨S_, .i32⟩
  | 92 => ⟨S128, .i32⟩
  | 93 => ⟨S128, .i1⟩
  | 94 => ⟨S_, .i32⟩
  | 95 => ⟨S_, .i1⟩
  | 96 => ⟨S128, .i1⟩
  | 97 => ⟨S128, .i1⟩
  | 98 => ⟨S128, .i1⟩
  | 99 => ⟨S128, .i32⟩
  | 100 => ⟨S128, .i32⟩
  | 101 => ⟨S128, .i32⟩
  | 102 => ⟨S128, .f32⟩
  | 103 => ⟨S128, .f32⟩
  | 104 => ⟨S_, .f32⟩
  | 105 => ⟨S128, .f32⟩
  | 106 => ⟨S128, .f32⟩
  | 107 => ⟨S_, .f32⟩
  | 108 => ⟨S128, .f32⟩
  | 109 => ⟨S128, .f32⟩
  | 110 => ⟨S1x128, .i1⟩
  | 111 => ⟨S4096x1, .f32⟩
  | 112 => ⟨S4096x1, .f32⟩
  | 113 => ⟨S4096x128, .i1⟩
  | 114 => ⟨S4096x128, .f32⟩
  | 115 => ⟨S4096x128, .f32⟩
  | 116 => ⟨S4096x128, .f32⟩
  | 117 => ⟨S1x128, .f32⟩
  | 118 => ⟨S4096x128, .f32⟩
  | 119 => ⟨S4096x128, .f32⟩
  | 120 => ⟨S4096x128, .f32⟩
  | 121 => ⟨S4096x128, .f32⟩
  | 122 => ⟨S1x128, .i1⟩
  | 123 => ⟨S4096x128, .f32⟩
  | 124 => ⟨S_, .f32⟩
  | 125 => ⟨S_, .f32⟩
  | 126 => ⟨S4096x128, .i1⟩
  | 127 => ⟨S4096x128, .f32⟩
  | _ => ⟨S1x2048x13312, .f32⟩

abbrev hbmTy0_2 (i : Nat) : BufTy := match i % 128 with
  | 0 => ⟨S4096x128, .f32⟩
  | 1 => ⟨S1x128, .i1⟩
  | 2 => ⟨S_, .f32⟩
  | 3 => ⟨S_, .f32⟩
  | 4 => ⟨S4096x128, .i1⟩
  | 5 => ⟨S4096x128, .f32⟩
  | 6 => ⟨S4096x128, .f32⟩
  | 7 => ⟨S1x4096x128, .f32⟩
  | 8 => ⟨S1x4096x128, .f32⟩
  | 9 => ⟨S1x4096x128, .f32⟩
  | 10 => ⟨S3x4096x128, .f32⟩
  | 11 => ⟨S_, .f32⟩
  | 12 => ⟨S3x4096x128, .f32⟩
  | 13 => ⟨S3x4096x128, .f32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S128, .i32⟩
  | 21 => ⟨S128, .i32⟩
  | 22 => ⟨S_, .i32⟩
  | 23 => ⟨S128, .i32⟩
  | 24 => ⟨S128, .i1⟩
  | 25 => ⟨S_, .i32⟩
  | 26 => ⟨S128, .i32⟩
  | 27 => ⟨S128, .i1⟩
  | 28 => ⟨S_, .i32⟩
  | 29 => ⟨S_, .i1⟩
  | 30 => ⟨S128, .i1⟩
  | 31 => ⟨S128, .i1⟩
  | 32 => ⟨S128, .i1⟩
  | 33 => ⟨S128, .i32⟩
  | 34 => ⟨S128, .i32⟩
  | 35 => ⟨S128, .i32⟩
  | 36 => ⟨S_, .i32⟩
  | 37 => ⟨S128, .i32⟩
  | 38 => ⟨S128, .i1⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S128, .i32⟩
  | 46 => ⟨S128, .i32⟩
  | 47 => ⟨S_, .i32⟩
  | 48 => ⟨S128, .i32⟩
  | 49 => ⟨S128, .i1⟩
  | 50 => ⟨S_, .i32⟩
  | 51 => ⟨S128, .i32⟩
  | 52 => ⟨S128, .i1⟩
  | 53 => ⟨S_, .i32⟩
  | 54 => ⟨S_, .i1⟩
  | 55 => ⟨S128, .i1⟩
  | 56 => ⟨S128, .i1⟩
  | 57 => ⟨S128, .i1⟩
  | 58 => ⟨S128, .i32⟩
  | 59 => ⟨S128, .i32⟩
  | 60 => ⟨S128, .i32⟩
  | 61 => ⟨S_, .i32⟩
  | 62 => ⟨S128, .i32⟩
  | 63 => ⟨S128, .i1⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S128, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i1⟩
  | 78 => ⟨S_, .i32⟩
  | 79 => ⟨S_, .i1⟩
  | 80 => ⟨S128, .i1⟩
  | 81 => ⟨S128, .i1⟩
  | 82 => ⟨S128, .i1⟩
  | 83 => ⟨S128, .i32⟩
  | 84 => ⟨S128, .i32⟩
  | 85 => ⟨S128, .i32⟩
  | 86 => ⟨S128, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S1x128, .i1⟩
  | 95 => ⟨S4096x1, .f32⟩
  | 96 => ⟨S4096x1, .f32⟩
  | 97 => ⟨S4096x128, .i1⟩
  | 98 => ⟨S4096x128, .f32⟩
  | 99 => ⟨S4096x128, .f32⟩
  | 100 => ⟨S4096x128, .f32⟩
  | 101 => ⟨S1x128, .f32⟩
  | 102 => ⟨S4096x128, .f32⟩
  | 103 => ⟨S4096x128, .f32⟩
  | 104 => ⟨S4096x128, .f32⟩
  | 105 => ⟨S4096x128, .f32⟩
  | 106 => ⟨S1x128, .i1⟩
  | 107 => ⟨S4096x128, .f32⟩
  | 108 => ⟨S_, .f32⟩
  | 109 => ⟨S_, .f32⟩
  | 110 => ⟨S4096x128, .i1⟩
  | 111 => ⟨S4096x128, .f32⟩
  | 112 => ⟨S4096x128, .f32⟩
  | 113 => ⟨S1x128, .i1⟩
  | 114 => ⟨S_, .f32⟩
  | 115 => ⟨S_, .f32⟩
  | 116 => ⟨S4096x128, .i1⟩
  | 117 => ⟨S4096x128, .f32⟩
  | 118 => ⟨S4096x128, .f32⟩
  | 119 => ⟨S1x4096x128, .f32⟩
  | 120 => ⟨S1x4096x128, .f32⟩
  | 121 => ⟨S1x4096x128, .f32⟩
  | 122 => ⟨S3x4096x128, .f32⟩
  | 123 => ⟨S_, .f32⟩
  | 124 => ⟨S3x4096x128, .f32⟩
  | 125 => ⟨S3x4096x128, .f32⟩
  | 126 => ⟨S_, .i32⟩
  | 127 => ⟨S_, .i32⟩
  | _ => ⟨S1x2048x13312, .f32⟩

abbrev hbmTy0_3 (i : Nat) : BufTy := match i % 128 with
  | 0 => ⟨S_, .i32⟩
  | 1 => ⟨S_, .i1⟩
  | 2 => ⟨S_, .i32⟩
  | 3 => ⟨S_, .i32⟩
  | 4 => ⟨S128, .i32⟩
  | 5 => ⟨S128, .i32⟩
  | 6 => ⟨S_, .i32⟩
  | 7 => ⟨S128, .i32⟩
  | 8 => ⟨S128, .i1⟩
  | 9 => ⟨S_, .i32⟩
  | 10 => ⟨S128, .i32⟩
  | 11 => ⟨S128, .i1⟩
  | 12 => ⟨S_, .i32⟩
  | 13 => ⟨S_, .i1⟩
  | 14 => ⟨S128, .i1⟩
  | 15 => ⟨S128, .i1⟩
  | 16 => ⟨S128, .i1⟩
  | 17 => ⟨S128, .i32⟩
  | 18 => ⟨S128, .i32⟩
  | 19 => ⟨S128, .i32⟩
  | 20 => ⟨S_, .i32⟩
  | 21 => ⟨S128, .i32⟩
  | 22 => ⟨S128, .i1⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S128, .i32⟩
  | 30 => ⟨S128, .i32⟩
  | 31 => ⟨S_, .i32⟩
  | 32 => ⟨S128, .i32⟩
  | 33 => ⟨S128, .i1⟩
  | 34 => ⟨S_, .i32⟩
  | 35 => ⟨S128, .i32⟩
  | 36 => ⟨S128, .i1⟩
  | 37 => ⟨S_, .i32⟩
  | 38 => ⟨S_, .i1⟩
  | 39 => ⟨S128, .i1⟩
  | 40 => ⟨S128, .i1⟩
  | 41 => ⟨S128, .i1⟩
  | 42 => ⟨S128, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S128, .i32⟩
  | 55 => ⟨S128, .i32⟩
  | 56 => ⟨S_, .i32⟩
  | 57 => ⟨S128, .i32⟩
  | 58 => ⟨S128, .i1⟩
  | 59 => ⟨S_, .i32⟩
  | 60 => ⟨S128, .i32⟩
  | 61 => ⟨S128, .i1⟩
  | 62 => ⟨S_, .i32⟩
  | 63 => ⟨S_, .i1⟩
  | 64 => ⟨S128, .i1⟩
  | 65 => ⟨S128, .i1⟩
  | 66 => ⟨S128, .i1⟩
  | 67 => ⟨S128, .i32⟩
  | 68 => ⟨S128, .i32⟩
  | 69 => ⟨S128, .i32⟩
  | 70 => ⟨S128, .f32⟩
  | 71 => ⟨S128, .f32⟩
  | 72 => ⟨S_, .f32⟩
  | 73 => ⟨S128, .f32⟩
  | 74 => ⟨S128, .f32⟩
  | 75 => ⟨S_, .f32⟩
  | 76 => ⟨S128, .f32⟩
  | 77 => ⟨S128, .f32⟩
  | 78 => ⟨S1x128, .i1⟩
  | 79 => ⟨S4096x1, .f32⟩
  | 80 => ⟨S4096x1, .f32⟩
  | 81 => ⟨S4096x128, .i1⟩
  | 82 => ⟨S4096x128, .f32⟩
  | 83 => ⟨S4096x128, .f32⟩
  | 84 => ⟨S4096x128, .f32⟩
  | 85 => ⟨S1x128, .f32⟩
  | 86 => ⟨S4096x128, .f32⟩
  | 87 => ⟨S4096x128, .f32⟩
  | 88 => ⟨S4096x128, .f32⟩
  | 89 => ⟨S4096x128, .f32⟩
  | 90 => ⟨S1x128, .i1⟩
  | 91 => ⟨S4096x128, .f32⟩
  | 92 => ⟨S_, .f32⟩
  | 93 => ⟨S_, .f32⟩
  | 94 => ⟨S4096x128, .i1⟩
  | 95 => ⟨S4096x128, .f32⟩
  | 96 => ⟨S4096x128, .f32⟩
  | 97 => ⟨S1x128, .i1⟩
  | 98 => ⟨S_, .f32⟩
  | 99 => ⟨S_, .f32⟩
  | 100 => ⟨S4096x128, .i1⟩
  | 101 => ⟨S4096x128, .f32⟩
  | 102 => ⟨S4096x128, .f32⟩
  | 103 => ⟨S1x4096x128, .f32⟩
  | 104 => ⟨S1x4096x128, .f32⟩
  | 105 => ⟨S1x4096x128, .f32⟩
  | 106 => ⟨S3x4096x128, .f32⟩
  | 107 => ⟨S_, .f32⟩
  | 108 => ⟨S3x4096x128, .f32⟩
  | 109 => ⟨S3x4096x128, .f32⟩
  | 110 => ⟨S1x3x4096x128, .f32⟩
  | 111 => ⟨S1x3x4096x128, .f32⟩
  | 112 => ⟨S1x3x4096x128, .f32⟩
  | 113 => ⟨S1x3x4096x128, .f32⟩
  | 114 => ⟨S4x3x4096x128, .f32⟩
  | 115 => ⟨S2048x13312, .f32⟩
  | 116 => ⟨S8192x13312, .bf16⟩
  | _ => ⟨S1x2048x13312, .f32⟩

abbrev hbmTy (i : Nat) : BufTy := match i / 128 with
  | 0 => hbmTy0_0 i
  | 1 => hbmTy0_1 i
  | 2 => hbmTy0_2 i
  | 3 => hbmTy0_3 i
  | _ => ⟨S1x2048x13312, .f32⟩

abbrev bufTy : (tb : Table) → Fin (tcTables nBuf tb) → BufTy
  | .hbm, ⟨i, _⟩ => hbmTy i
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x3x1024x128, .f32⟩
  | .local _ .vmem, ⟨5, _⟩ => ⟨S1x3x1024x128, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S1x2048x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_c_1 : Ref sig .tc := ⟨.hbm, 46, rfl⟩
abbrev main_call2_v0 : Ref sig .tc := ⟨.hbm, 47, rfl⟩
abbrev main_call2_c : Ref sig .tc := ⟨.hbm, 48, rfl⟩
abbrev main_call2_v1 : Ref sig .tc := ⟨.hbm, 49, rfl⟩
abbrev main_call2_c_0 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_call2_c_1 : Ref sig .tc := ⟨.hbm, 54, rfl⟩
abbrev main_call2_v5 : Ref sig .tc := ⟨.hbm, 55, rfl⟩
abbrev main_call2_v6 : Ref sig .tc := ⟨.hbm, 56, rfl⟩
abbrev main_call2_c_2 : Ref sig .tc := ⟨.hbm, 57, rfl⟩
abbrev main_call2_v7 : Ref sig .tc := ⟨.hbm, 58, rfl⟩
abbrev main_call2_v8 : Ref sig .tc := ⟨.hbm, 59, rfl⟩
abbrev main_call2_c_3 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_v12 : Ref sig .tc := ⟨.hbm, 64, rfl⟩
abbrev main_call2_v13 : Ref sig .tc := ⟨.hbm, 65, rfl⟩
abbrev main_call2_v14 : Ref sig .tc := ⟨.hbm, 66, rfl⟩
abbrev main_v6 : Ref sig .tc := ⟨.hbm, 67, rfl⟩
abbrev main_c_2 : Ref sig .tc := ⟨.hbm, 68, rfl⟩
abbrev main_v7 : Ref sig .tc := ⟨.hbm, 69, rfl⟩
abbrev main_v8 : Ref sig .tc := ⟨.hbm, 70, rfl⟩
abbrev main_c_3 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_v9 : Ref sig .tc := ⟨.hbm, 92, rfl⟩
abbrev main_c_4 : Ref sig .tc := ⟨.hbm, 93, rfl⟩
abbrev main_v10 : Ref sig .tc := ⟨.hbm, 94, rfl⟩
abbrev main_v11 : Ref sig .tc := ⟨.hbm, 95, rfl⟩
abbrev main_c_5 : Ref sig .tc := ⟨.hbm, 96, rfl⟩
abbrev main_call4_v0 : Ref sig .tc := ⟨.hbm, 97, rfl⟩
abbrev main_call4_c : Ref sig .tc := ⟨.hbm, 98, rfl⟩
abbrev main_call4_v1 : Ref sig .tc := ⟨.hbm, 99, rfl⟩
abbrev main_call4_c_0 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_call4_c_1 : Ref sig .tc := ⟨.hbm, 104, rfl⟩
abbrev main_call4_v5 : Ref sig .tc := ⟨.hbm, 105, rfl⟩
abbrev main_call4_v6 : Ref sig .tc := ⟨.hbm, 106, rfl⟩
abbrev main_call4_c_2 : Ref sig .tc := ⟨.hbm, 107, rfl⟩
abbrev main_call4_v7 : Ref sig .tc := ⟨.hbm, 108, rfl⟩
abbrev main_call4_v8 : Ref sig .tc := ⟨.hbm, 109, rfl⟩
abbrev main_call4_c_3 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_v12 : Ref sig .tc := ⟨.hbm, 114, rfl⟩
abbrev main_call4_v13 : Ref sig .tc := ⟨.hbm, 115, rfl⟩
abbrev main_call4_v14 : Ref sig .tc := ⟨.hbm, 116, rfl⟩
abbrev main_v12 : Ref sig .tc := ⟨.hbm, 117, rfl⟩
abbrev main_v13 : Ref sig .tc := ⟨.hbm, 118, rfl⟩
abbrev main_v14 : Ref sig .tc := ⟨.hbm, 119, rfl⟩
abbrev main_cst : Ref sig .tc := ⟨.hbm, 120, rfl⟩
abbrev main_v15 : Ref sig .tc := ⟨.hbm, 121, rfl⟩
abbrev main_v16 : Ref sig .tc := ⟨.hbm, 122, rfl⟩
abbrev main_cst_6 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_v21 : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_v26 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_cst_7 : Ref sig .tc := ⟨.hbm, 140, rfl⟩
abbrev main_call6_v0 : Ref sig .tc := ⟨.hbm, 141, rfl⟩
abbrev main_call6_v1 : Ref sig .tc := ⟨.hbm, 142, rfl⟩
abbrev main_call6_v2 : Ref sig .tc := ⟨.hbm, 143, rfl⟩
abbrev main_v30 : Ref sig .tc := ⟨.hbm, 144, rfl⟩
abbrev main_v31 : Ref sig .tc := ⟨.hbm, 145, rfl⟩
abbrev main_cst_8 : Ref sig .tc := ⟨.hbm, 146, rfl⟩
abbrev main_call7_v0 : Ref sig .tc := ⟨.hbm, 147, rfl⟩
abbrev main_call7_v1 : Ref sig .tc := ⟨.hbm, 148, rfl⟩
abbrev main_call7_v2 : Ref sig .tc := ⟨.hbm, 149, rfl⟩
abbrev main_v32 : Ref sig .tc := ⟨.hbm, 150, rfl⟩
abbrev main_v33 : Ref sig .tc := ⟨.hbm, 151, rfl⟩
abbrev main_v34 : Ref sig .tc := ⟨.hbm, 152, rfl⟩
abbrev main_v35 : Ref sig .tc := ⟨.hbm, 153, rfl⟩
abbrev main_v36 : Ref sig .tc := ⟨.hbm, 154, rfl⟩
abbrev main_cst_9 : Ref sig .tc := ⟨.hbm, 155, rfl⟩
abbrev main_v37 : Ref sig .tc := ⟨.hbm, 156, rfl⟩
abbrev main_v38 : Ref sig .tc := ⟨.hbm, 157, rfl⟩
abbrev main_c_10 : Ref sig .tc := ⟨.hbm, 158, rfl⟩
abbrev main_call8_v0 : Ref sig .tc := ⟨.hbm, 159, rfl⟩
abbrev main_call8_c : Ref sig .tc := ⟨.hbm, 160, rfl⟩
abbrev main_call8_v1 : Ref sig .tc := ⟨.hbm, 161, rfl⟩
abbrev main_call8_c_0 : Ref sig .tc := ⟨.hbm, 162, rfl⟩
abbrev main_call8_v2 : Ref sig .tc := ⟨.hbm, 163, rfl⟩
abbrev main_call8_v3 : Ref sig .tc := ⟨.hbm, 164, rfl⟩
abbrev main_call8_v4 : Ref sig .tc := ⟨.hbm, 165, rfl⟩
abbrev main_call8_c_1 : Ref sig .tc := ⟨.hbm, 166, rfl⟩
abbrev main_call8_v5 : Ref sig .tc := ⟨.hbm, 167, rfl⟩
abbrev main_call8_v6 : Ref sig .tc := ⟨.hbm, 168, rfl⟩
abbrev main_call8_c_2 : Ref sig .tc := ⟨.hbm, 169, rfl⟩
abbrev main_call8_v7 : Ref sig .tc := ⟨.hbm, 170, rfl⟩
abbrev main_call8_v8 : Ref sig .tc := ⟨.hbm, 171, rfl⟩
abbrev main_call8_c_3 : Ref sig .tc := ⟨.hbm, 172, rfl⟩
abbrev main_call8_v9 : Ref sig .tc := ⟨.hbm, 173, rfl⟩
abbrev main_call8_v10 : Ref sig .tc := ⟨.hbm, 174, rfl⟩
abbrev main_call8_v11 : Ref sig .tc := ⟨.hbm, 175, rfl⟩
abbrev main_call8_v12 : Ref sig .tc := ⟨.hbm, 176, rfl⟩
abbrev main_call8_v13 : Ref sig .tc := ⟨.hbm, 177, rfl⟩
abbrev main_call8_v14 : Ref sig .tc := ⟨.hbm, 178, rfl⟩
abbrev main_v39 : Ref sig .tc := ⟨.hbm, 179, rfl⟩
abbrev main_c_11 : Ref sig .tc := ⟨.hbm, 180, rfl⟩
abbrev main_v40 : Ref sig .tc := ⟨.hbm, 181, rfl⟩
abbrev main_v41 : Ref sig .tc := ⟨.hbm, 182, rfl⟩
abbrev main_c_12 : Ref sig .tc := ⟨.hbm, 183, rfl⟩
abbrev main_call9_v0 : Ref sig .tc := ⟨.hbm, 184, rfl⟩
abbrev main_call9_c : Ref sig .tc := ⟨.hbm, 185, rfl⟩
abbrev main_call9_v1 : Ref sig .tc := ⟨.hbm, 186, rfl⟩
abbrev main_call9_c_0 : Ref sig .tc := ⟨.hbm, 187, rfl⟩
abbrev main_call9_v2 : Ref sig .tc := ⟨.hbm, 188, rfl⟩
abbrev main_call9_v3 : Ref sig .tc := ⟨.hbm, 189, rfl⟩
abbrev main_call9_v4 : Ref sig .tc := ⟨.hbm, 190, rfl⟩
abbrev main_call9_c_1 : Ref sig .tc := ⟨.hbm, 191, rfl⟩
abbrev main_call9_v5 : Ref sig .tc := ⟨.hbm, 192, rfl⟩
abbrev main_call9_v6 : Ref sig .tc := ⟨.hbm, 193, rfl⟩
abbrev main_call9_c_2 : Ref sig .tc := ⟨.hbm, 194, rfl⟩
abbrev main_call9_v7 : Ref sig .tc := ⟨.hbm, 195, rfl⟩
abbrev main_call9_v8 : Ref sig .tc := ⟨.hbm, 196, rfl⟩
abbrev main_call9_c_3 : Ref sig .tc := ⟨.hbm, 197, rfl⟩
abbrev main_call9_v9 : Ref sig .tc := ⟨.hbm, 198, rfl⟩
abbrev main_call9_v10 : Ref sig .tc := ⟨.hbm, 199, rfl⟩
abbrev main_call9_v11 : Ref sig .tc := ⟨.hbm, 200, rfl⟩
abbrev main_call9_v12 : Ref sig .tc := ⟨.hbm, 201, rfl⟩
abbrev main_call9_v13 : Ref sig .tc := ⟨.hbm, 202, rfl⟩
abbrev main_call9_v14 : Ref sig .tc := ⟨.hbm, 203, rfl⟩
abbrev main_v42 : Ref sig .tc := ⟨.hbm, 204, rfl⟩
abbrev main_c_13 : Ref sig .tc := ⟨.hbm, 205, rfl⟩
abbrev main_v43 : Ref sig .tc := ⟨.hbm, 206, rfl⟩
abbrev main_v44 : Ref sig .tc := ⟨.hbm, 207, rfl⟩
abbrev main_c_14 : Ref sig .tc := ⟨.hbm, 208, rfl⟩
abbrev main_call10_v0 : Ref sig .tc := ⟨.hbm, 209, rfl⟩
abbrev main_call10_c : Ref sig .tc := ⟨.hbm, 210, rfl⟩
abbrev main_call10_v1 : Ref sig .tc := ⟨.hbm, 211, rfl⟩
abbrev main_call10_c_0 : Ref sig .tc := ⟨.hbm, 212, rfl⟩
abbrev main_call10_v2 : Ref sig .tc := ⟨.hbm, 213, rfl⟩
abbrev main_call10_v3 : Ref sig .tc := ⟨.hbm, 214, rfl⟩
abbrev main_call10_v4 : Ref sig .tc := ⟨.hbm, 215, rfl⟩
abbrev main_call10_c_1 : Ref sig .tc := ⟨.hbm, 216, rfl⟩
abbrev main_call10_v5 : Ref sig .tc := ⟨.hbm, 217, rfl⟩
abbrev main_call10_v6 : Ref sig .tc := ⟨.hbm, 218, rfl⟩
abbrev main_call10_c_2 : Ref sig .tc := ⟨.hbm, 219, rfl⟩
abbrev main_call10_v7 : Ref sig .tc := ⟨.hbm, 220, rfl⟩
abbrev main_call10_v8 : Ref sig .tc := ⟨.hbm, 221, rfl⟩
abbrev main_call10_c_3 : Ref sig .tc := ⟨.hbm, 222, rfl⟩
abbrev main_call10_v9 : Ref sig .tc := ⟨.hbm, 223, rfl⟩
abbrev main_call10_v10 : Ref sig .tc := ⟨.hbm, 224, rfl⟩
abbrev main_call10_v11 : Ref sig .tc := ⟨.hbm, 225, rfl⟩
abbrev main_call10_v12 : Ref sig .tc := ⟨.hbm, 226, rfl⟩
abbrev main_call10_v13 : Ref sig .tc := ⟨.hbm, 227, rfl⟩
abbrev main_call10_v14 : Ref sig .tc := ⟨.hbm, 228, rfl⟩
abbrev main_v45 : Ref sig .tc := ⟨.hbm, 229, rfl⟩
abbrev main_v46 : Ref sig .tc := ⟨.hbm, 230, rfl⟩
abbrev main_v47 : Ref sig .tc := ⟨.hbm, 231, rfl⟩
abbrev main_cst_15 : Ref sig .tc := ⟨.hbm, 232, rfl⟩
abbrev main_v48 : Ref sig .tc := ⟨.hbm, 233, rfl⟩
abbrev main_v49 : Ref sig .tc := ⟨.hbm, 234, rfl⟩
abbrev main_cst_16 : Ref sig .tc := ⟨.hbm, 235, rfl⟩
abbrev main_v50 : Ref sig .tc := ⟨.hbm, 236, rfl⟩
abbrev main_v51 : Ref sig .tc := ⟨.hbm, 237, rfl⟩
abbrev main_v52 : Ref sig .tc := ⟨.hbm, 238, rfl⟩
abbrev main_v53 : Ref sig .tc := ⟨.hbm, 239, rfl⟩
abbrev main_v54 : Ref sig .tc := ⟨.hbm, 240, rfl⟩
abbrev main_call11_v0 : Ref sig .tc := ⟨.hbm, 241, rfl⟩
abbrev main_call11_v1 : Ref sig .tc := ⟨.hbm, 242, rfl⟩
abbrev main_call11_v2 : Ref sig .tc := ⟨.hbm, 243, rfl⟩
abbrev main_v55 : Ref sig .tc := ⟨.hbm, 244, rfl⟩
abbrev main_v56 : Ref sig .tc := ⟨.hbm, 245, rfl⟩
abbrev main_v57 : Ref sig .tc := ⟨.hbm, 246, rfl⟩
abbrev main_v58 : Ref sig .tc := ⟨.hbm, 247, rfl⟩
abbrev main_v59 : Ref sig .tc := ⟨.hbm, 248, rfl⟩
abbrev main_v60 : Ref sig .tc := ⟨.hbm, 249, rfl⟩
abbrev main_v61 : Ref sig .tc := ⟨.hbm, 250, rfl⟩
abbrev main_v62 : Ref sig .tc := ⟨.hbm, 251, rfl⟩
abbrev main_cst_17 : Ref sig .tc := ⟨.hbm, 252, rfl⟩
abbrev main_call12_v0 : Ref sig .tc := ⟨.hbm, 253, rfl⟩
abbrev main_call12_v1 : Ref sig .tc := ⟨.hbm, 254, rfl⟩
abbrev main_call12_v2 : Ref sig .tc := ⟨.hbm, 255, rfl⟩
abbrev main_v63 : Ref sig .tc := ⟨.hbm, 256, rfl⟩
abbrev main_v64 : Ref sig .tc := ⟨.hbm, 257, rfl⟩
abbrev main_cst_18 : Ref sig .tc := ⟨.hbm, 258, rfl⟩
abbrev main_call13_v0 : Ref sig .tc := ⟨.hbm, 259, rfl⟩
abbrev main_call13_v1 : Ref sig .tc := ⟨.hbm, 260, rfl⟩
abbrev main_call13_v2 : Ref sig .tc := ⟨.hbm, 261, rfl⟩
abbrev main_v65 : Ref sig .tc := ⟨.hbm, 262, rfl⟩
abbrev main_v66 : Ref sig .tc := ⟨.hbm, 263, rfl⟩
abbrev main_v67 : Ref sig .tc := ⟨.hbm, 264, rfl⟩
abbrev main_v68 : Ref sig .tc := ⟨.hbm, 265, rfl⟩
abbrev main_v69 : Ref sig .tc := ⟨.hbm, 266, rfl⟩
abbrev main_cst_19 : Ref sig .tc := ⟨.hbm, 267, rfl⟩
abbrev main_v70 : Ref sig .tc := ⟨.hbm, 268, rfl⟩
abbrev main_v71 : Ref sig .tc := ⟨.hbm, 269, rfl⟩
abbrev main_c_20 : Ref sig .tc := ⟨.hbm, 270, rfl⟩
abbrev main_call14_v0 : Ref sig .tc := ⟨.hbm, 271, rfl⟩
abbrev main_call14_c : Ref sig .tc := ⟨.hbm, 272, rfl⟩
abbrev main_call14_v1 : Ref sig .tc := ⟨.hbm, 273, rfl⟩
abbrev main_call14_c_0 : Ref sig .tc := ⟨.hbm, 274, rfl⟩
abbrev main_call14_v2 : Ref sig .tc := ⟨.hbm, 275, rfl⟩
abbrev main_call14_v3 : Ref sig .tc := ⟨.hbm, 276, rfl⟩
abbrev main_call14_v4 : Ref sig .tc := ⟨.hbm, 277, rfl⟩
abbrev main_call14_c_1 : Ref sig .tc := ⟨.hbm, 278, rfl⟩
abbrev main_call14_v5 : Ref sig .tc := ⟨.hbm, 279, rfl⟩
abbrev main_call14_v6 : Ref sig .tc := ⟨.hbm, 280, rfl⟩
abbrev main_call14_c_2 : Ref sig .tc := ⟨.hbm, 281, rfl⟩
abbrev main_call14_v7 : Ref sig .tc := ⟨.hbm, 282, rfl⟩
abbrev main_call14_v8 : Ref sig .tc := ⟨.hbm, 283, rfl⟩
abbrev main_call14_c_3 : Ref sig .tc := ⟨.hbm, 284, rfl⟩
abbrev main_call14_v9 : Ref sig .tc := ⟨.hbm, 285, rfl⟩
abbrev main_call14_v10 : Ref sig .tc := ⟨.hbm, 286, rfl⟩
abbrev main_call14_v11 : Ref sig .tc := ⟨.hbm, 287, rfl⟩
abbrev main_call14_v12 : Ref sig .tc := ⟨.hbm, 288, rfl⟩
abbrev main_call14_v13 : Ref sig .tc := ⟨.hbm, 289, rfl⟩
abbrev main_call14_v14 : Ref sig .tc := ⟨.hbm, 290, rfl⟩
abbrev main_v72 : Ref sig .tc := ⟨.hbm, 291, rfl⟩
abbrev main_c_21 : Ref sig .tc := ⟨.hbm, 292, rfl⟩
abbrev main_v73 : Ref sig .tc := ⟨.hbm, 293, rfl⟩
abbrev main_v74 : Ref sig .tc := ⟨.hbm, 294, rfl⟩
abbrev main_c_22 : Ref sig .tc := ⟨.hbm, 295, rfl⟩
abbrev main_call15_v0 : Ref sig .tc := ⟨.hbm, 296, rfl⟩
abbrev main_call15_c : Ref sig .tc := ⟨.hbm, 297, rfl⟩
abbrev main_call15_v1 : Ref sig .tc := ⟨.hbm, 298, rfl⟩
abbrev main_call15_c_0 : Ref sig .tc := ⟨.hbm, 299, rfl⟩
abbrev main_call15_v2 : Ref sig .tc := ⟨.hbm, 300, rfl⟩
abbrev main_call15_v3 : Ref sig .tc := ⟨.hbm, 301, rfl⟩
abbrev main_call15_v4 : Ref sig .tc := ⟨.hbm, 302, rfl⟩
abbrev main_call15_c_1 : Ref sig .tc := ⟨.hbm, 303, rfl⟩
abbrev main_call15_v5 : Ref sig .tc := ⟨.hbm, 304, rfl⟩
abbrev main_call15_v6 : Ref sig .tc := ⟨.hbm, 305, rfl⟩
abbrev main_call15_c_2 : Ref sig .tc := ⟨.hbm, 306, rfl⟩
abbrev main_call15_v7 : Ref sig .tc := ⟨.hbm, 307, rfl⟩
abbrev main_call15_v8 : Ref sig .tc := ⟨.hbm, 308, rfl⟩
abbrev main_call15_c_3 : Ref sig .tc := ⟨.hbm, 309, rfl⟩
abbrev main_call15_v9 : Ref sig .tc := ⟨.hbm, 310, rfl⟩
abbrev main_call15_v10 : Ref sig .tc := ⟨.hbm, 311, rfl⟩
abbrev main_call15_v11 : Ref sig .tc := ⟨.hbm, 312, rfl⟩
abbrev main_call15_v12 : Ref sig .tc := ⟨.hbm, 313, rfl⟩
abbrev main_call15_v13 : Ref sig .tc := ⟨.hbm, 314, rfl⟩
abbrev main_call15_v14 : Ref sig .tc := ⟨.hbm, 315, rfl⟩
abbrev main_v75 : Ref sig .tc := ⟨.hbm, 316, rfl⟩
abbrev main_c_23 : Ref sig .tc := ⟨.hbm, 317, rfl⟩
abbrev main_v76 : Ref sig .tc := ⟨.hbm, 318, rfl⟩
abbrev main_v77 : Ref sig .tc := ⟨.hbm, 319, rfl⟩
abbrev main_c_24 : Ref sig .tc := ⟨.hbm, 320, rfl⟩
abbrev main_call16_v0 : Ref sig .tc := ⟨.hbm, 321, rfl⟩
abbrev main_call16_c : Ref sig .tc := ⟨.hbm, 322, rfl⟩
abbrev main_call16_v1 : Ref sig .tc := ⟨.hbm, 323, rfl⟩
abbrev main_call16_c_0 : Ref sig .tc := ⟨.hbm, 324, rfl⟩
abbrev main_call16_v2 : Ref sig .tc := ⟨.hbm, 325, rfl⟩
abbrev main_call16_v3 : Ref sig .tc := ⟨.hbm, 326, rfl⟩
abbrev main_call16_v4 : Ref sig .tc := ⟨.hbm, 327, rfl⟩
abbrev main_call16_c_1 : Ref sig .tc := ⟨.hbm, 328, rfl⟩
abbrev main_call16_v5 : Ref sig .tc := ⟨.hbm, 329, rfl⟩
abbrev main_call16_v6 : Ref sig .tc := ⟨.hbm, 330, rfl⟩
abbrev main_call16_c_2 : Ref sig .tc := ⟨.hbm, 331, rfl⟩
abbrev main_call16_v7 : Ref sig .tc := ⟨.hbm, 332, rfl⟩
abbrev main_call16_v8 : Ref sig .tc := ⟨.hbm, 333, rfl⟩
abbrev main_call16_c_3 : Ref sig .tc := ⟨.hbm, 334, rfl⟩
abbrev main_call16_v9 : Ref sig .tc := ⟨.hbm, 335, rfl⟩
abbrev main_call16_v10 : Ref sig .tc := ⟨.hbm, 336, rfl⟩
abbrev main_call16_v11 : Ref sig .tc := ⟨.hbm, 337, rfl⟩
abbrev main_call16_v12 : Ref sig .tc := ⟨.hbm, 338, rfl⟩
abbrev main_call16_v13 : Ref sig .tc := ⟨.hbm, 339, rfl⟩
abbrev main_call16_v14 : Ref sig .tc := ⟨.hbm, 340, rfl⟩
abbrev main_v78 : Ref sig .tc := ⟨.hbm, 341, rfl⟩
abbrev main_v79 : Ref sig .tc := ⟨.hbm, 342, rfl⟩
abbrev main_v80 : Ref sig .tc := ⟨.hbm, 343, rfl⟩
abbrev main_cst_25 : Ref sig .tc := ⟨.hbm, 344, rfl⟩
abbrev main_v81 : Ref sig .tc := ⟨.hbm, 345, rfl⟩
abbrev main_v82 : Ref sig .tc := ⟨.hbm, 346, rfl⟩
abbrev main_cst_26 : Ref sig .tc := ⟨.hbm, 347, rfl⟩
abbrev main_v83 : Ref sig .tc := ⟨.hbm, 348, rfl⟩
abbrev main_v84 : Ref sig .tc := ⟨.hbm, 349, rfl⟩
abbrev main_v85 : Ref sig .tc := ⟨.hbm, 350, rfl⟩
abbrev main_v86 : Ref sig .tc := ⟨.hbm, 351, rfl⟩
abbrev main_v87 : Ref sig .tc := ⟨.hbm, 352, rfl⟩
abbrev main_call17_v0 : Ref sig .tc := ⟨.hbm, 353, rfl⟩
abbrev main_call17_v1 : Ref sig .tc := ⟨.hbm, 354, rfl⟩
abbrev main_call17_v2 : Ref sig .tc := ⟨.hbm, 355, rfl⟩
abbrev main_v88 : Ref sig .tc := ⟨.hbm, 356, rfl⟩
abbrev main_v89 : Ref sig .tc := ⟨.hbm, 357, rfl⟩
abbrev main_v90 : Ref sig .tc := ⟨.hbm, 358, rfl⟩
abbrev main_v91 : Ref sig .tc := ⟨.hbm, 359, rfl⟩
abbrev main_v92 : Ref sig .tc := ⟨.hbm, 360, rfl⟩
abbrev main_v93 : Ref sig .tc := ⟨.hbm, 361, rfl⟩
abbrev main_v94 : Ref sig .tc := ⟨.hbm, 362, rfl⟩
abbrev main_v95 : Ref sig .tc := ⟨.hbm, 363, rfl⟩
abbrev main_cst_27 : Ref sig .tc := ⟨.hbm, 364, rfl⟩
abbrev main_call18_v0 : Ref sig .tc := ⟨.hbm, 365, rfl⟩
abbrev main_call18_v1 : Ref sig .tc := ⟨.hbm, 366, rfl⟩
abbrev main_call18_v2 : Ref sig .tc := ⟨.hbm, 367, rfl⟩
abbrev main_v96 : Ref sig .tc := ⟨.hbm, 368, rfl⟩
abbrev main_v97 : Ref sig .tc := ⟨.hbm, 369, rfl⟩
abbrev main_cst_28 : Ref sig .tc := ⟨.hbm, 370, rfl⟩
abbrev main_call19_v0 : Ref sig .tc := ⟨.hbm, 371, rfl⟩
abbrev main_call19_v1 : Ref sig .tc := ⟨.hbm, 372, rfl⟩
abbrev main_call19_v2 : Ref sig .tc := ⟨.hbm, 373, rfl⟩
abbrev main_v98 : Ref sig .tc := ⟨.hbm, 374, rfl⟩
abbrev main_v99 : Ref sig .tc := ⟨.hbm, 375, rfl⟩
abbrev main_v100 : Ref sig .tc := ⟨.hbm, 376, rfl⟩
abbrev main_v101 : Ref sig .tc := ⟨.hbm, 377, rfl⟩
abbrev main_v102 : Ref sig .tc := ⟨.hbm, 378, rfl⟩
abbrev main_cst_29 : Ref sig .tc := ⟨.hbm, 379, rfl⟩
abbrev main_v103 : Ref sig .tc := ⟨.hbm, 380, rfl⟩
abbrev main_v104 : Ref sig .tc := ⟨.hbm, 381, rfl⟩
abbrev main_c_30 : Ref sig .tc := ⟨.hbm, 382, rfl⟩
abbrev main_call20_v0 : Ref sig .tc := ⟨.hbm, 383, rfl⟩
abbrev main_call20_c : Ref sig .tc := ⟨.hbm, 384, rfl⟩
abbrev main_call20_v1 : Ref sig .tc := ⟨.hbm, 385, rfl⟩
abbrev main_call20_c_0 : Ref sig .tc := ⟨.hbm, 386, rfl⟩
abbrev main_call20_v2 : Ref sig .tc := ⟨.hbm, 387, rfl⟩
abbrev main_call20_v3 : Ref sig .tc := ⟨.hbm, 388, rfl⟩
abbrev main_call20_v4 : Ref sig .tc := ⟨.hbm, 389, rfl⟩
abbrev main_call20_c_1 : Ref sig .tc := ⟨.hbm, 390, rfl⟩
abbrev main_call20_v5 : Ref sig .tc := ⟨.hbm, 391, rfl⟩
abbrev main_call20_v6 : Ref sig .tc := ⟨.hbm, 392, rfl⟩
abbrev main_call20_c_2 : Ref sig .tc := ⟨.hbm, 393, rfl⟩
abbrev main_call20_v7 : Ref sig .tc := ⟨.hbm, 394, rfl⟩
abbrev main_call20_v8 : Ref sig .tc := ⟨.hbm, 395, rfl⟩
abbrev main_call20_c_3 : Ref sig .tc := ⟨.hbm, 396, rfl⟩
abbrev main_call20_v9 : Ref sig .tc := ⟨.hbm, 397, rfl⟩
abbrev main_call20_v10 : Ref sig .tc := ⟨.hbm, 398, rfl⟩
abbrev main_call20_v11 : Ref sig .tc := ⟨.hbm, 399, rfl⟩
abbrev main_call20_v12 : Ref sig .tc := ⟨.hbm, 400, rfl⟩
abbrev main_call20_v13 : Ref sig .tc := ⟨.hbm, 401, rfl⟩
abbrev main_call20_v14 : Ref sig .tc := ⟨.hbm, 402, rfl⟩
abbrev main_v105 : Ref sig .tc := ⟨.hbm, 403, rfl⟩
abbrev main_c_31 : Ref sig .tc := ⟨.hbm, 404, rfl⟩
abbrev main_v106 : Ref sig .tc := ⟨.hbm, 405, rfl⟩
abbrev main_v107 : Ref sig .tc := ⟨.hbm, 406, rfl⟩
abbrev main_c_32 : Ref sig .tc := ⟨.hbm, 407, rfl⟩
abbrev main_call21_v0 : Ref sig .tc := ⟨.hbm, 408, rfl⟩
abbrev main_call21_c : Ref sig .tc := ⟨.hbm, 409, rfl⟩
abbrev main_call21_v1 : Ref sig .tc := ⟨.hbm, 410, rfl⟩
abbrev main_call21_c_0 : Ref sig .tc := ⟨.hbm, 411, rfl⟩
abbrev main_call21_v2 : Ref sig .tc := ⟨.hbm, 412, rfl⟩
abbrev main_call21_v3 : Ref sig .tc := ⟨.hbm, 413, rfl⟩
abbrev main_call21_v4 : Ref sig .tc := ⟨.hbm, 414, rfl⟩
abbrev main_call21_c_1 : Ref sig .tc := ⟨.hbm, 415, rfl⟩
abbrev main_call21_v5 : Ref sig .tc := ⟨.hbm, 416, rfl⟩
abbrev main_call21_v6 : Ref sig .tc := ⟨.hbm, 417, rfl⟩
abbrev main_call21_c_2 : Ref sig .tc := ⟨.hbm, 418, rfl⟩
abbrev main_call21_v7 : Ref sig .tc := ⟨.hbm, 419, rfl⟩
abbrev main_call21_v8 : Ref sig .tc := ⟨.hbm, 420, rfl⟩
abbrev main_call21_c_3 : Ref sig .tc := ⟨.hbm, 421, rfl⟩
abbrev main_call21_v9 : Ref sig .tc := ⟨.hbm, 422, rfl⟩
abbrev main_call21_v10 : Ref sig .tc := ⟨.hbm, 423, rfl⟩
abbrev main_call21_v11 : Ref sig .tc := ⟨.hbm, 424, rfl⟩
abbrev main_call21_v12 : Ref sig .tc := ⟨.hbm, 425, rfl⟩
abbrev main_call21_v13 : Ref sig .tc := ⟨.hbm, 426, rfl⟩
abbrev main_call21_v14 : Ref sig .tc := ⟨.hbm, 427, rfl⟩
abbrev main_v108 : Ref sig .tc := ⟨.hbm, 428, rfl⟩
abbrev main_c_33 : Ref sig .tc := ⟨.hbm, 429, rfl⟩
abbrev main_v109 : Ref sig .tc := ⟨.hbm, 430, rfl⟩
abbrev main_v110 : Ref sig .tc := ⟨.hbm, 431, rfl⟩
abbrev main_c_34 : Ref sig .tc := ⟨.hbm, 432, rfl⟩
abbrev main_call22_v0 : Ref sig .tc := ⟨.hbm, 433, rfl⟩
abbrev main_call22_c : Ref sig .tc := ⟨.hbm, 434, rfl⟩
abbrev main_call22_v1 : Ref sig .tc := ⟨.hbm, 435, rfl⟩
abbrev main_call22_c_0 : Ref sig .tc := ⟨.hbm, 436, rfl⟩
abbrev main_call22_v2 : Ref sig .tc := ⟨.hbm, 437, rfl⟩
abbrev main_call22_v3 : Ref sig .tc := ⟨.hbm, 438, rfl⟩
abbrev main_call22_v4 : Ref sig .tc := ⟨.hbm, 439, rfl⟩
abbrev main_call22_c_1 : Ref sig .tc := ⟨.hbm, 440, rfl⟩
abbrev main_call22_v5 : Ref sig .tc := ⟨.hbm, 441, rfl⟩
abbrev main_call22_v6 : Ref sig .tc := ⟨.hbm, 442, rfl⟩
abbrev main_call22_c_2 : Ref sig .tc := ⟨.hbm, 443, rfl⟩
abbrev main_call22_v7 : Ref sig .tc := ⟨.hbm, 444, rfl⟩
abbrev main_call22_v8 : Ref sig .tc := ⟨.hbm, 445, rfl⟩
abbrev main_call22_c_3 : Ref sig .tc := ⟨.hbm, 446, rfl⟩
abbrev main_call22_v9 : Ref sig .tc := ⟨.hbm, 447, rfl⟩
abbrev main_call22_v10 : Ref sig .tc := ⟨.hbm, 448, rfl⟩
abbrev main_call22_v11 : Ref sig .tc := ⟨.hbm, 449, rfl⟩
abbrev main_call22_v12 : Ref sig .tc := ⟨.hbm, 450, rfl⟩
abbrev main_call22_v13 : Ref sig .tc := ⟨.hbm, 451, rfl⟩
abbrev main_call22_v14 : Ref sig .tc := ⟨.hbm, 452, rfl⟩
abbrev main_v111 : Ref sig .tc := ⟨.hbm, 453, rfl⟩
abbrev main_v112 : Ref sig .tc := ⟨.hbm, 454, rfl⟩
abbrev main_v113 : Ref sig .tc := ⟨.hbm, 455, rfl⟩
abbrev main_cst_35 : Ref sig .tc := ⟨.hbm, 456, rfl⟩
abbrev main_v114 : Ref sig .tc := ⟨.hbm, 457, rfl⟩
abbrev main_v115 : Ref sig .tc := ⟨.hbm, 458, rfl⟩
abbrev main_cst_36 : Ref sig .tc := ⟨.hbm, 459, rfl⟩
abbrev main_v116 : Ref sig .tc := ⟨.hbm, 460, rfl⟩
abbrev main_v117 : Ref sig .tc := ⟨.hbm, 461, rfl⟩
abbrev main_v118 : Ref sig .tc := ⟨.hbm, 462, rfl⟩
abbrev main_v119 : Ref sig .tc := ⟨.hbm, 463, rfl⟩
abbrev main_v120 : Ref sig .tc := ⟨.hbm, 464, rfl⟩
abbrev main_call23_v0 : Ref sig .tc := ⟨.hbm, 465, rfl⟩
abbrev main_call23_v1 : Ref sig .tc := ⟨.hbm, 466, rfl⟩
abbrev main_call23_v2 : Ref sig .tc := ⟨.hbm, 467, rfl⟩
abbrev main_v121 : Ref sig .tc := ⟨.hbm, 468, rfl⟩
abbrev main_v122 : Ref sig .tc := ⟨.hbm, 469, rfl⟩
abbrev main_v123 : Ref sig .tc := ⟨.hbm, 470, rfl⟩
abbrev main_v124 : Ref sig .tc := ⟨.hbm, 471, rfl⟩
abbrev main_v125 : Ref sig .tc := ⟨.hbm, 472, rfl⟩
abbrev main_v126 : Ref sig .tc := ⟨.hbm, 473, rfl⟩
abbrev main_v127 : Ref sig .tc := ⟨.hbm, 474, rfl⟩
abbrev main_v128 : Ref sig .tc := ⟨.hbm, 475, rfl⟩
abbrev main_cst_37 : Ref sig .tc := ⟨.hbm, 476, rfl⟩
abbrev main_call24_v0 : Ref sig .tc := ⟨.hbm, 477, rfl⟩
abbrev main_call24_v1 : Ref sig .tc := ⟨.hbm, 478, rfl⟩
abbrev main_call24_v2 : Ref sig .tc := ⟨.hbm, 479, rfl⟩
abbrev main_v129 : Ref sig .tc := ⟨.hbm, 480, rfl⟩
abbrev main_v130 : Ref sig .tc := ⟨.hbm, 481, rfl⟩
abbrev main_cst_38 : Ref sig .tc := ⟨.hbm, 482, rfl⟩
abbrev main_call25_v0 : Ref sig .tc := ⟨.hbm, 483, rfl⟩
abbrev main_call25_v1 : Ref sig .tc := ⟨.hbm, 484, rfl⟩
abbrev main_call25_v2 : Ref sig .tc := ⟨.hbm, 485, rfl⟩
abbrev main_v131 : Ref sig .tc := ⟨.hbm, 486, rfl⟩
abbrev main_v132 : Ref sig .tc := ⟨.hbm, 487, rfl⟩
abbrev main_v133 : Ref sig .tc := ⟨.hbm, 488, rfl⟩
abbrev main_v134 : Ref sig .tc := ⟨.hbm, 489, rfl⟩
abbrev main_v135 : Ref sig .tc := ⟨.hbm, 490, rfl⟩
abbrev main_cst_39 : Ref sig .tc := ⟨.hbm, 491, rfl⟩
abbrev main_v136 : Ref sig .tc := ⟨.hbm, 492, rfl⟩
abbrev main_v137 : Ref sig .tc := ⟨.hbm, 493, rfl⟩
abbrev main_v138 : Ref sig .tc := ⟨.hbm, 494, rfl⟩
abbrev main_v139 : Ref sig .tc := ⟨.hbm, 495, rfl⟩
abbrev main_v140 : Ref sig .tc := ⟨.hbm, 496, rfl⟩
abbrev main_v141 : Ref sig .tc := ⟨.hbm, 497, rfl⟩
abbrev main_v142 : Ref sig .tc := ⟨.hbm, 498, rfl⟩
abbrev main_v143 : Ref sig .tc := ⟨.hbm, 499, rfl⟩
abbrev main_v144 : Ref sig .tc := ⟨.hbm, 500, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def k0_cond2 (i : grid0.Coords) : BitVec 1 :=
  let arg0 : BitVec 32 := BitVec.ofNat 32 (i 0).val
  let c0_i32_4 : BitVec 32 := 0#32
  let v6 : BitVec 1 := Scalar.cmpi .eq arg0 c0_i32_4
  let c5_i32 : BitVec 32 := 5#32
  let v7 : BitVec 1 := Scalar.cmpi .eq arg0 c5_i32
  let v8 : BitVec 1 := Scalar.ori v6 v7
  let v12 : BitVec 32 := Scalar.extui v8
  let c0_i32_5 : BitVec 32 := 0#32
  let v13 : BitVec 1 := Scalar.cmpi .ne v12 c0_i32_5
  v13

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let c8_i32 : BitVec 32 := 8#32
  let v10 : BitVec 1 := Scalar.cmpi .eq arg0 c8_i32
  let v11 : BitVec 1 := Scalar.ori v9 v10
  let v14 : BitVec 32 := Scalar.extui v11
  let c0_i32_6 : BitVec 32 := 0#32
  let v15 : BitVec 1 := Scalar.cmpi .ne v14 c0_i32_6
  v15

def k0_cond4 (i : grid0.Coords) : BitVec 1 :=
  let arg0 : BitVec 32 := BitVec.ofNat 32 (i 0).val
  let c0_i32_4 : BitVec 32 := 0#32
  let v6 : BitVec 1 := Scalar.cmpi .eq arg0 c0_i32_4
  let c5_i32 : BitVec 32 := 5#32
  let v7 : BitVec 1 := Scalar.cmpi .eq arg0 c5_i32
  let v8 : BitVec 1 := Scalar.ori v6 v7
  let c3_i32 : BitVec 32 := 3#32
  let v9 : BitVec 1 := Scalar.cmpi .eq arg0 c3_i32
  let c8_i32 : BitVec 32 := 8#32
  let v10 : BitVec 1 := Scalar.cmpi .eq arg0 c8_i32
  let v11 : BitVec 1 := Scalar.ori v9 v10
  let v16 : BitVec 1 := Scalar.ori v8 v11
  let v_true : BitVec 1 := 1#1
  let v17 : BitVec 1 := Scalar.xori v16 v_true
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg0 c5_i32
  let c3_i32 : BitVec 32 := 3#32
  let v1 : BitVec 1 := Scalar.cmpi .eq arg0 c3_i32
  let c8_i32 : BitVec 32 := 8#32
  let v2 : BitVec 1 := Scalar.cmpi .eq arg0 c8_i32
  let c3_i32_0 : BitVec 32 := 3#32
  let c0_i32 : BitVec 32 := 0#32
  let v3 : BitVec 32 := Scalar.select v2 c3_i32_0 c0_i32
  let c2_i32 : BitVec 32 := 2#32
  let v4 : BitVec 32 := Scalar.select v1 c2_i32 v3
  let c1_i32 : BitVec 32 := 1#32
  let v5 : BitVec 32 := Scalar.select v0 c1_i32 v4
  let c4_i32 : BitVec 32 := 4#32
  let c0_i32_1 : BitVec 32 := 0#32
  let v6 : BitVec 1 := Scalar.cmpi .eq c4_i32 c0_i32_1
  let c1_i32_2 : BitVec 32 := 1#32
  let v7 : BitVec 32 := Scalar.select v6 c1_i32_2 c4_i32
  let v8 : BitVec 32 := Scalar.remsi arg1 v7
  let c0_i32_3 : BitVec 32 := 0#32
  let v9 : BitVec 1 := Scalar.cmpi .ne v8 c0_i32_3
  let c0_i32_4 : BitVec 32 := 0#32
  let v10 : BitVec 1 := Scalar.cmpi .slt v8 c0_i32_4
  let c0_i32_5 : BitVec 32 := 0#32
  let v11 : BitVec 1 := Scalar.cmpi .slt v7 c0_i32_5
  let v12 : BitVec 1 := Scalar.xori v10 v11
  let v13 : BitVec 1 := Scalar.andi v12 v9
  let v14 : BitVec 32 := Scalar.addi v8 v7
  let v15 : BitVec 32 := Scalar.select v13 v14 v8
  let c0_i32_6 : BitVec 32 := 0#32
  let c0_i32_7 : BitVec 32 := 0#32
  let c0_i32_8 : BitVec 32 := 0#32
  ![v5.toNat, c0_i32_6.toNat, v15.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S1x2048x13312 : Shape := ⟨3, ![1, 2048, 13312]⟩
abbrev S8192x2048 : Shape := ⟨2, ![8192, 2048]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S4096x2 : Shape := ⟨2, ![4096, 2]⟩
abbrev S2048x13312 : Shape := ⟨2, ![2048, 13312]⟩
abbrev S8192x13312 : Shape := ⟨2, ![8192, 13312]⟩
abbrev S2x4096x13312 : Shape := ⟨3, ![2, 4096, 13312]⟩
abbrev S2x4096x1024 : Shape := ⟨3, ![2, 4096, 1024]⟩
abbrev S2x4096x8x128 : Shape := ⟨4, ![2, 4096, 8, 128]⟩
abbrev S32 : Shape := ⟨1, ![32]⟩
abbrev S_ : Shape := ⟨0, ![]⟩
abbrev S4096x2x1 : Shape := ⟨3, ![4096, 2, 1]⟩
abbrev S1x1x32 : Shape := ⟨3, ![1, 1, 32]⟩
abbrev S4096x2x32 : Shape := ⟨3, ![4096, 2, 32]⟩
abbrev S1x4096x1x2x32 : Shape := ⟨5, ![1, 4096, 1, 2, 32]⟩
abbrev S2x4096x8x2x2x32 : Shape := ⟨6, ![2, 4096, 8, 2, 2, 32]⟩
abbrev S2x4096x8x2x1x32 : Shape := ⟨6, ![2, 4096, 8, 2, 1, 32]⟩
abbrev S2x4096x8x2x32 : Shape := ⟨5, ![2, 4096, 8, 2, 32]⟩
abbrev S2x4096x16x64 : Shape := ⟨4, ![2, 4096, 16, 64]⟩
abbrev S16 : Shape := ⟨1, ![16]⟩
abbrev S1x1x16 : Shape := ⟨3, ![1, 1, 16]⟩
abbrev S4096x2x16 : Shape := ⟨3, ![4096, 2, 16]⟩
abbrev S1x4096x1x2x16 : Shape := ⟨5, ![1, 4096, 1, 2, 16]⟩
abbrev S2x4096x16x2x2x16 : Shape := ⟨6, ![2, 4096, 16, 2, 2, 16]⟩
abbrev S2x4096x16x2x1x16 : Shape := ⟨6, ![2, 4096, 16, 2, 1, 16]⟩
abbrev S2x4096x16x2x16 : Shape := ⟨5, ![2, 4096, 16, 2, 16]⟩
abbrev S2x4096x2048 : Shape := ⟨3, ![2, 4096, 2048]⟩
abbrev S2x4096x4096 : Shape := ⟨3, ![2, 4096, 4096]⟩

abbrev nBuf : Space → Nat
  | .hbm => 174
  | .vmem => 0
  | .smem => 0
  | _ => 0

abbrev hbmTy0_0 (i : Nat) : BufTy := match i % 128 with
  | 0 => ⟨S1x2048x13312, .f32⟩
  | 1 => ⟨S8192x2048, .bf16⟩
  | 2 => ⟨S64, .f32⟩
  | 3 => ⟨S64x64, .f32⟩
  | 4 => ⟨S64x64, .f32⟩
  | 5 => ⟨S64x64x1, .f32⟩
  | 6 => ⟨S64x64x1, .f32⟩
  | 7 => ⟨S64x64x2, .f32⟩
  | 8 => ⟨S4096x2, .f32⟩
  | 9 => ⟨S8192x2048, .f32⟩
  | 10 => ⟨S2048x13312, .f32⟩
  | 11 => ⟨S8192x13312, .f32⟩
  | 12 => ⟨S2x4096x13312, .f32⟩
  | 13 => ⟨S2x4096x1024, .f32⟩
  | 14 => ⟨S2x4096x8x128, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096x2x1, .f32⟩
  | 24 => ⟨S1x1x32, .f32⟩
  | 25 => ⟨S4096x2x32, .f32⟩
  | 26 => ⟨S4096x2x32, .f32⟩
  | 27 => ⟨S4096x2x32, .f32⟩
  | 28 => ⟨S1x4096x1x2x32, .f32⟩
  | 29 => ⟨S1x4096x1x2x32, .f32⟩
  | 30 => ⟨S1x4096x1x2x32, .f32⟩
  | 31 => ⟨S2x4096x8x2x2x32, .f32⟩
  | 32 => ⟨S2x4096x8x2x1x32, .f32⟩
  | 33 => ⟨S2x4096x8x2x32, .f32⟩
  | 34 => ⟨S2x4096x8x2x1x32, .f32⟩
  | 35 => ⟨S2x4096x8x2x32, .f32⟩
  | 36 => ⟨S2x4096x8x2x32, .f32⟩
  | 37 => ⟨S2x4096x8x2x32, .f32⟩
  | 38 => ⟨S2x4096x8x2x32, .f32⟩
  | 39 => ⟨S2x4096x8x2x32, .f32⟩
  | 40 => ⟨S2x4096x8x2x32, .f32⟩
  | 41 => ⟨S2x4096x8x2x32, .f32⟩
  | 42 => ⟨S2x4096x8x2x32, .f32⟩
  | 43 => ⟨S2x4096x8x2x32, .f32⟩
  | 44 => ⟨S2x4096x8x2x32, .f32⟩
  | 45 => ⟨S2x4096x8x2x32, .f32⟩
  | 46 => ⟨S2x4096x8x2x1x32, .f32⟩
  | 47 => ⟨S2x4096x8x2x1x32, .f32⟩
  | 48 => ⟨S2x4096x8x2x2x32, .f32⟩
  | 49 => ⟨S2x4096x1024, .f32⟩
  | 50 => ⟨S2x4096x1024, .f32⟩
  | 51 => ⟨S2x4096x16x64, .f32⟩
  | 52 => ⟨S16, .f32⟩
  | 53 => ⟨S16, .f32⟩
  | 54 => ⟨S_, .f32⟩
  | 55 => ⟨S16, .f32⟩
  | 56 => ⟨S16, .f32⟩
  | 57 => ⟨S_, .f32⟩
  | 58 => ⟨S16, .f32⟩
  | 59 => ⟨S16, .f32⟩
  | 60 => ⟨S4096x2x1, .f32⟩
  | 61 => ⟨S1x1x16, .f32⟩
  | 62 => ⟨S4096x2x16, .f32⟩
  | 63 => ⟨S4096x2x16, .f32⟩
  | 64 => ⟨S4096x2x16, .f32⟩
  | 65 => ⟨S1x4096x1x2x16, .f32⟩
  | 66 => ⟨S1x4096x1x2x16, .f32⟩
  | 67 => ⟨S1x4096x1x2x16, .f32⟩
  | 68 => ⟨S2x4096x16x2x2x16, .f32⟩
  | 69 => ⟨S2x4096x16x2x1x16, .f32⟩
  | 70 => ⟨S2x4096x16x2x16, .f32⟩
  | 71 => ⟨S2x4096x16x2x1x16, .f32⟩
  | 72 => ⟨S2x4096x16x2x16, .f32⟩
  | 73 => ⟨S2x4096x16x2x16, .f32⟩
  | 74 => ⟨S2x4096x16x2x16, .f32⟩
  | 75 => ⟨S2x4096x16x2x16, .f32⟩
  | 76 => ⟨S2x4096x16x2x16, .f32⟩
  | 77 => ⟨S2x4096x16x2x16, .f32⟩
  | 78 => ⟨S2x4096x16x2x16, .f32⟩
  | 79 => ⟨S2x4096x16x2x16, .f32⟩
  | 80 => ⟨S2x4096x16x2x16, .f32⟩
  | 81 => ⟨S2x4096x16x2x16, .f32⟩
  | 82 => ⟨S2x4096x16x2x16, .f32⟩
  | 83 => ⟨S2x4096x16x2x1x16, .f32⟩
  | 84 => ⟨S2x4096x16x2x1x16, .f32⟩
  | 85 => ⟨S2x4096x16x2x2x16, .f32⟩
  | 86 => ⟨S2x4096x1024, .f32⟩
  | 87 => ⟨S2x4096x1024, .f32⟩
  | 88 => ⟨S2x4096x8x128, .f32⟩
  | 89 => ⟨S32, .f32⟩
  | 90 => ⟨S32, .f32⟩
  | 91 => ⟨S_, .f32⟩
  | 92 => ⟨S32, .f32⟩
  | 93 => ⟨S32, .f32⟩
  | 94 => ⟨S_, .f32⟩
  | 95 => ⟨S32, .f32⟩
  | 96 => ⟨S32, .f32⟩
  | 97 => ⟨S4096x2x1, .f32⟩
  | 98 => ⟨S1x1x32, .f32⟩
  | 99 => ⟨S4096x2x32, .f32⟩
  | 100 => ⟨S4096x2x32, .f32⟩
  | 101 => ⟨S4096x2x32, .f32⟩
  | 102 => ⟨S1x4096x1x2x32, .f32⟩
  | 103 => ⟨S1x4096x1x2x32, .f32⟩
  | 104 => ⟨S1x4096x1x2x32, .f32⟩
  | 105 => ⟨S2x4096x8x2x2x32, .f32⟩
  | 106 => ⟨S2x4096x8x2x1x32, .f32⟩
  | 107 => ⟨S2x4096x8x2x32, .f32⟩
  | 108 => ⟨S2x4096x8x2x1x32, .f32⟩
  | 109 => ⟨S2x4096x8x2x32, .f32⟩
  | 110 => ⟨S2x4096x8x2x32, .f32⟩
  | 111 => ⟨S2x4096x8x2x32, .f32⟩
  | 112 => ⟨S2x4096x8x2x32, .f32⟩
  | 113 => ⟨S2x4096x8x2x32, .f32⟩
  | 114 => ⟨S2x4096x8x2x32, .f32⟩
  | 115 => ⟨S2x4096x8x2x32, .f32⟩
  | 116 => ⟨S2x4096x8x2x32, .f32⟩
  | 117 => ⟨S2x4096x8x2x32, .f32⟩
  | 118 => ⟨S2x4096x8x2x32, .f32⟩
  | 119 => ⟨S2x4096x8x2x32, .f32⟩
  | 120 => ⟨S2x4096x8x2x1x32, .f32⟩
  | 121 => ⟨S2x4096x8x2x1x32, .f32⟩
  | 122 => ⟨S2x4096x8x2x2x32, .f32⟩
  | 123 => ⟨S2x4096x1024, .f32⟩
  | 124 => ⟨S_, .f32⟩
  | 125 => ⟨S2x4096x1024, .f32⟩
  | 126 => ⟨S2x4096x1024, .f32⟩
  | 127 => ⟨S2x4096x1024, .f32⟩
  | _ => ⟨S1x2048x13312, .f32⟩

abbrev hbmTy0_1 (i : Nat) : BufTy := match i % 128 with
  | 0 => ⟨S2x4096x16x64, .f32⟩
  | 1 => ⟨S16, .f32⟩
  | 2 => ⟨S16, .f32⟩
  | 3 => ⟨S_, .f32⟩
  | 4 => ⟨S16, .f32⟩
  | 5 => ⟨S16, .f32⟩
  | 6 => ⟨S_, .f32⟩
  | 7 => ⟨S16, .f32⟩
  | 8 => ⟨S16, .f32⟩
  | 9 => ⟨S4096x2x1, .f32⟩
  | 10 => ⟨S1x1x16, .f32⟩
  | 11 => ⟨S4096x2x16, .f32⟩
  | 12 => ⟨S4096x2x16, .f32⟩
  | 13 => ⟨S4096x2x16, .f32⟩
  | 14 => ⟨S1x4096x1x2x16, .f32⟩
  | 15 => ⟨S1x4096x1x2x16, .f32⟩
  | 16 => ⟨S1x4096x1x2x16, .f32⟩
  | 17 => ⟨S2x4096x16x2x2x16, .f32⟩
  | 18 => ⟨S2x4096x16x2x1x16, .f32⟩
  | 19 => ⟨S2x4096x16x2x16, .f32⟩
  | 20 => ⟨S2x4096x16x2x1x16, .f32⟩
  | 21 => ⟨S2x4096x16x2x16, .f32⟩
  | 22 => ⟨S2x4096x16x2x16, .f32⟩
  | 23 => ⟨S2x4096x16x2x16, .f32⟩
  | 24 => ⟨S2x4096x16x2x16, .f32⟩
  | 25 => ⟨S2x4096x16x2x16, .f32⟩
  | 26 => ⟨S2x4096x16x2x16, .f32⟩
  | 27 => ⟨S2x4096x16x2x16, .f32⟩
  | 28 => ⟨S2x4096x16x2x16, .f32⟩
  | 29 => ⟨S2x4096x16x2x16, .f32⟩
  | 30 => ⟨S2x4096x16x2x16, .f32⟩
  | 31 => ⟨S2x4096x16x2x16, .f32⟩
  | 32 => ⟨S2x4096x16x2x1x16, .f32⟩
  | 33 => ⟨S2x4096x16x2x1x16, .f32⟩
  | 34 => ⟨S2x4096x16x2x2x16, .f32⟩
  | 35 => ⟨S2x4096x1024, .f32⟩
  | 36 => ⟨S_, .f32⟩
  | 37 => ⟨S2x4096x1024, .f32⟩
  | 38 => ⟨S2x4096x1024, .f32⟩
  | 39 => ⟨S2x4096x2048, .f32⟩
  | 40 => ⟨S2x4096x1024, .f32⟩
  | 41 => ⟨S2x4096x2048, .f32⟩
  | 42 => ⟨S2x4096x4096, .f32⟩
  | 43 => ⟨S2x4096x13312, .f32⟩
  | 44 => ⟨S8192x13312, .f32⟩
  | 45 => ⟨S8192x13312, .bf16⟩
  | _ => ⟨S1x2048x13312, .f32⟩

abbrev hbmTy (i : Nat) : BufTy := match i / 128 with
  | 0 => hbmTy0_0 i
  | 1 => hbmTy0_1 i
  | _ => ⟨S1x2048x13312, .f32⟩

abbrev bufTy : (tb : Table) → Fin (tcTables nBuf tb) → BufTy
  | .hbm, ⟨i, _⟩ => hbmTy i
  | _, _ => ⟨S1x2048x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_cst_1 : Ref sig .tc := ⟨.hbm, 54, rfl⟩
abbrev main_v50 : Ref sig .tc := ⟨.hbm, 55, rfl⟩
abbrev main_v51 : Ref sig .tc := ⟨.hbm, 56, rfl⟩
abbrev main_cst_2 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_cst_3 : Ref sig .tc := ⟨.hbm, 91, rfl⟩
abbrev main_v85 : Ref sig .tc := ⟨.hbm, 92, rfl⟩
abbrev main_v86 : Ref sig .tc := ⟨.hbm, 93, rfl⟩
abbrev main_cst_4 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_cst_5 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_cst_6 : Ref sig .tc := ⟨.hbm, 131, rfl⟩
abbrev main_v122 : Ref sig .tc := ⟨.hbm, 132, rfl⟩
abbrev main_v123 : Ref sig .tc := ⟨.hbm, 133, rfl⟩
abbrev main_cst_7 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_cst_8 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩

abbrev nD : Nat := 1
abbrev τ : Topo := Topo.v7x

variable {F : FTy → Type} [FloatOps F]
-- ==== Proof.AttnMath.lean ====
/- Hand-written, untrusted: the arithmetic of one row of the differential attention, over extended reals. -/
module

public import Idealize.ShloMosaic.Lib.Pointwise

@[expose] public section

set_option maxRecDepth 16384

noncomputable section

open Idealize.ShloMosaic
open scoped BigOperators

namespace Cert.Attn

/-- The largest score of a row, folded from the constant that stands for −∞. -/
def peak {n : ℕ} (s : Fin n → EReal) : EReal := Finset.univ.fold max (Ideal.ofBits .f32 0xFF800000#32) s

/-- The unnormalised weight of entry `j`: the exponential of its distance to the row's maximum. -/
def mass {n : ℕ} (s : Fin n → EReal) (j : Fin n) : EReal := Ideal.exp (s j - peak s)

theorem negInf_eq : Ideal.ofBits .f32 0xFF800000#32 = ⊥ := by
  simp [Ideal.ofBits, Ideal.ieee]

/-- Taking the maximum with −∞ once more changes nothing. -/
theorem max_negInf_peak {n : ℕ} (s : Fin n → EReal) : max (Ideal.ofBits .f32 0xFF800000#32) (peak s) = peak s := by
  rw [negInf_eq]; exact max_eq_right bot_le

/-- The maximum of a non-empty row is one of its entries. -/
theorem exists_peak {n : ℕ} (s : Fin (n + 1) → EReal) : ∃ j, peak s = s j := by
  obtain ⟨j, -, hj⟩ := Finset.exists_mem_eq_sup Finset.univ Finset.univ_nonempty s
  refine ⟨j, Eq.trans ?_ hj⟩
  rw [peak, negInf_eq]
  rfl

theorem exp_nonneg (x : EReal) : 0 ≤ Ideal.exp x := by
  induction x with
  | bot => exact le_refl _
  | top => exact le_top
  | coe r => exact EReal.coe_nonneg.2 (Real.exp_pos r).le

theorem exp_zero : Ideal.exp 0 = 1 := by
  show ((Real.exp 0 : ℝ) : EReal) = 1
  rw [Real.exp_zero]; rfl

/-- The sum of the masses of a row of finite scores is not zero: the largest entry contributes 1. -/
theorem sum_mass_ne_zero {n : ℕ} (s : Fin (n + 1) → EReal) (hb : ∀ j, s j ≠ ⊥) (ht : ∀ j, s j ≠ ⊤) :
    ∑ j, mass s j ≠ 0 := by
  intro h
  obtain ⟨j, hj⟩ := exists_peak s
  have h1 := (Finset.sum_eq_zero_iff_of_nonneg fun i _ => exp_nonneg _).1 h j (Finset.mem_univ _)
  have h2 : Ideal.exp (s j - peak s) = 0 := h1
  rw [hj, EReal.sub_self (ht j) (hb j), exp_zero] at h2
  exact one_ne_zero h2

/-- Multiplying by a reciprocal is dividing, off zero. -/
theorem mul_div_comm {l : EReal} (hl : l ≠ 0) (e c : EReal) : e * Ideal.div c l = c * Ideal.div e l := by
  rw [Ideal.div, Ideal.div, if_neg hl, if_neg hl, mul_left_comm]

/-- The difference of two softmax weights, as the kernel spells it and as the reference does. -/
theorem weight_eq {n : ℕ} (s0 s1 : Fin (n + 1) → EReal) (lam : EReal) (h0b : ∀ j, s0 j ≠ ⊥) (h0t : ∀ j, s0 j ≠ ⊤)
    (h1b : ∀ j, s1 j ≠ ⊥) (h1t : ∀ j, s1 j ≠ ⊤) (j : Fin (n + 1)) :
    mass s0 j * Ideal.div 1 (∑ i, mass s0 i) - mass s1 j * Ideal.div lam (∑ i, mass s1 i)
      = Ideal.div (mass s0 j) (∑ i, mass s0 i) - lam * Ideal.div (mass s1 j) (∑ i, mass s1 i) := by
  rw [mul_div_comm (sum_mass_ne_zero s0 h0b h0t), mul_div_comm (sum_mass_ne_zero s1 h1b h1t), one_mul]

theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- A sum of products of finite numbers is finite. -/
theorem sum_mul_finite {n : ℕ} (f g : Fin n → EReal) (hf : ∀ i, f i ≠ ⊥ ∧ f i ≠ ⊤) (hg : ∀ i, g i ≠ ⊥ ∧ g i ≠ ⊤) :
    ∑ i, f i * g i ≠ ⊥ ∧ ∑ i, f i * g i ≠ ⊤ := by
  have e : ∑ i, f i * g i = ((∑ i, (f i).toReal * (g i).toReal : ℝ) : EReal) := by
    rw [coe_sum]
    refine Finset.sum_congr rfl fun i _ => ?_
    rw [EReal.coe_mul, EReal.coe_toReal (hf i).2 (hf i).1, EReal.coe_toReal (hg i).2 (hg i).1]
  rw [e]
  exact ⟨EReal.coe_ne_bot _, EReal.coe_ne_top _⟩

/-- Of 128 lanes, the sum over those below 64 alone. -/
theorem sum_low_lanes (f : Fin 128 → EReal) :
    ∑ x : Fin 128, Scalar.select (IntOp.cmpi .slt (BitVec.ofNat 32 ↑x) 64#32) (f x) 0
      = ∑ d : Fin 64, f ⟨d, by omega⟩ := by
  rw [Fin.sum_univ_two_halves 64 64 rfl]
  have h0 : ∀ d : Fin 64, IntOp.cmpi .slt (BitVec.ofNat 32 d.val) 64#32 = 1#1 := by decide +kernel
  have h1 : ∀ d : Fin 64, IntOp.cmpi .slt (BitVec.ofNat 32 (64 + d.val)) 64#32 = 0#1 := by decide +kernel
  simp only [h0, h1, Scalar.select, if_true, if_neg (by decide : ¬ (0#1 = 1)), Finset.sum_const_zero, add_zero]
  rfl

/-- Of 128 lanes, the sum over those from 64 on alone. -/
theorem sum_high_lanes (f : Fin 128 → EReal) :
    ∑ x : Fin 128, Scalar.select (IntOp.cmpi .sge (BitVec.ofNat 32 ↑x) 64#32) (f x) 0
      = ∑ d : Fin 64, f ⟨64 + d, by omega⟩ := by
  rw [Fin.sum_univ_two_halves 64 64 rfl]
  have h0 : ∀ d : Fin 64, IntOp.cmpi .sge (BitVec.ofNat 32 d.val) 64#32 = 0#1 := by decide +kernel
  have h1 : ∀ d : Fin 64, IntOp.cmpi .sge (BitVec.ofNat 32 (64 + d.val)) 64#32 = 1#1 := by decide +kernel
  simp only [h0, h1, Scalar.select, if_neg (by decide : ¬ (0#1 = 1)), Finset.sum_const_zero, zero_add]
  rfl

/-! ## The layer's attention, of its argument arrays -/

/-- Column block `off` of the context's and the latents' projections, one below the other: the keys (`off = 3072`) and the
    values (`off = 4096`) that every query of batch entry `b` attends to. -/
def kv (off : ℕ) (ho : off + 1024 ≤ 5120) (p : FVec Ideal ⟨3, ![2, 4096, 13312]⟩ .bf16) (pc : FVec Ideal ⟨3, ![2, 256, 5120]⟩ .bf16)
    (b : Fin 2) (j : Fin 4352) (l : Fin 1024) : EReal :=
  if h : j.val < 256 then pc (ix3 b ⟨j, h⟩ ⟨off + l, by omega⟩) else p (ix3 b ⟨j - 256, by omega⟩ ⟨off + l, by omega⟩)

/-- The keys. -/
abbrev key := kv 3072 (by decide)

/-- The values. -/
abbrev val := kv 4096 (by decide)

/-- The score of query `n` against key `j` in map `c` of head `h`: the product of 64 columns. -/
def score (p : FVec Ideal ⟨3, ![2, 4096, 13312]⟩ .bf16) (pc : FVec Ideal ⟨3, ![2, 256, 5120]⟩ .bf16)
    (b c : Fin 2) (h : Fin 8) (n : Fin 4096) (j : Fin 4352) : EReal :=
  ∑ d : Fin 64, p (ix3 b n ⟨8192 + (h * 128 + c * 64 + d), by omega⟩) * key p pc b j ⟨h * 128 + c * 64 + d, by omega⟩

/-- One entry of the mixed values: the values weighted by the difference of the two softmax maps. -/
def mix (lam : EReal) (s0 s1 : Fin 4352 → EReal) (v : Fin 4352 → Fin 128 → EReal) (e : Fin 128) : EReal :=
  ∑ j, v j e * (Ideal.div (mass s0 j) (∑ i, mass s0 i) - lam * Ideal.div (mass s1 j) (∑ i, mass s1 i))

/-- A row of 128 normalised by its root mean square, then scaled. -/
def normed (o w : Fin 128 → EReal) (e : Fin 128) : EReal :=
  o e * Ideal.rsqrt (Ideal.div (∑ x, o x * o x) (Ideal.ofBits .f32 0x43000000#32) + Ideal.ofBits .f32 0x358637BD#32) * w e

end Cert.Attn

end
-- ==== Proof.AttnRef.lean ====
/- Hand-written, untrusted: the reference's result at an index, as `Cert.Attn`'s functions of its arguments. -/
module

public import proofs.«01_k».proof.Proof.AttnMath
public import proofs.«01_k».proof.Proof.Gen.ReferenceIdeal.Read

@[expose] public section

set_option maxRecDepth 16384

noncomputable section

open Idealize.ShloMosaic
open scoped BigOperators

namespace Cert.ReferenceIdeal.Attn

open Cert.ReferenceIdeal Cert.ReferenceIdeal.Gen Cert.ReferenceIdeal.Read Cert.Attn

/-! ## The vector operations of the reference at an index -/

section ops

variable (s : FVec Ideal S2x2x8x4096x4352 .f32) (z : FVec Ideal S_ .f32)

theorem maxReduce_at (b c : Fin 2) (h : Fin 8) (n : Fin 4096) :
    Host.reduce FloatOps.maximumf s z reducesTo_S2x2x8x4096x4352_S2x2x8x4096_d4 h_S_ (ix4 b c h n)
      = Finset.univ.fold max (z (Shape.Idx.first h_S_)) (fun j : Fin 4352 => s (ix5 b c h n j)) := by
  pointwise

theorem sumReduce_at (b c : Fin 2) (h : Fin 8) (n : Fin 4096) :
    Host.reduceAdd s z reducesTo_S2x2x8x4096x4352_S2x2x8x4096_d4 h_S_ (ix4 b c h n)
      = z (Shape.Idx.first h_S_) + ∑ j : Fin 4352, s (ix5 b c h n j) := by
  pointwise

theorem first_map_at (b : Fin 2) (h : Fin 8) (n : Fin 4096) (j : Fin 4352) :
    shapeCast S2x8x4096x4352 (extractStridedSlice S2x1x8x4096x4352 ![0, 0, 0, 0, 0] s slices_S2x2x8x4096x4352_S2x1x8x4096x4352_0_0_0_0_0)
      shapeCasts_S2x1x8x4096x4352_S2x8x4096x4352 (ix4 b h n j) = s (ix5 b 0 h n j) := by
  pointwise

theorem second_map_at (b : Fin 2) (h : Fin 8) (n : Fin 4096) (j : Fin 4352) :
    shapeCast S2x8x4096x4352 (extractStridedSlice S2x1x8x4096x4352 ![0, 1, 0, 0, 0] s slices_S2x2x8x4096x4352_S2x1x8x4096x4352_0_1_0_0_0)
      shapeCasts_S2x1x8x4096x4352_S2x8x4096x4352 (ix4 b h n j) = s (ix5 b 1 h n j) := by
  pointwise

theorem query_split_at (y : FVec Ideal S2x4096x1024 .f32) (b c : Fin 2) (h : Fin 8) (n : Fin 4096) (d : Fin 64) :
    shapeCast S2x4096x8x2x64 y shapeCasts_S2x4096x1024_S2x4096x8x2x64 (ix5 b n h c d) = y (ix3 b n ⟨h * 128 + c * 64 + d, by omega⟩) := by
  pointwise

theorem key_split_at (y : FVec Ideal S2x4352x1024 .f32) (b c : Fin 2) (h : Fin 8) (n : Fin 4352) (d : Fin 64) :
    shapeCast S2x4352x8x2x64 y shapeCasts_S2x4352x1024_S2x4352x8x2x64 (ix5 b n h c d) = y (ix3 b n ⟨h * 128 + c * 64 + d, by omega⟩) := by
  pointwise

theorem value_split_at (y : FVec Ideal S2x4352x1024 .f32) (b : Fin 2) (h : Fin 8) (n : Fin 4352) (d : Fin 128) :
    shapeCast S2x4352x8x128 y shapeCasts_S2x4352x1024_S2x4352x8x128 (ix4 b n h d) = y (ix3 b n ⟨h * 128 + d, by omega⟩) := by
  pointwise

theorem stack_at (y : FVec Ideal S2x256x1024 .f32) (y' : FVec Ideal S2x4096x1024 .f32) (b : Fin 2) (j : Fin 4352) (l : Fin 1024) :
    concatenate S2x4352x1024 1 [⟨S2x256x1024, y⟩, ⟨S2x4096x1024, y'⟩] concatenates_S2x256x1024_S2x4096x1024_S2x4352x1024_d1 (ix3 b j l)
      = if h : j.val < 256 then y (ix3 b ⟨j, h⟩ l) else y' (ix3 b ⟨j - 256, by omega⟩ l) := by
  pointwise

theorem merge_at (y : FVec Ideal S2x4096x8x128 .f32) (b : Fin 2) (n : Fin 4096) (h : Fin 8) (e : Fin 128) :
    shapeCast S2x4096x1024 y shapeCasts_S2x4096x8x128_S2x4096x1024 (ix3 b n ⟨h * 128 + e, by omega⟩) = y (ix4 b n h e) := by
  pointwise

theorem square_sum_at (y : FVec Ideal S2x4096x8x128 .f32) (z : FVec Ideal S_ .f32) (b : Fin 2) (n : Fin 4096) (h : Fin 8) :
    Host.reduceAdd y z reducesTo_S2x4096x8x128_S2x4096x8_d3 h_S_ (ix3 b n h) = z (Shape.Idx.first h_S_) + ∑ e : Fin 128, y (ix4 b n h e) := by
  pointwise

end ops

variable (x0 : FVec Ideal S1x4x64 .f32) (x1 : FVec Ideal S1x128 .f32) (x2 : FVec Ideal S2x4096x13312 .bf16) (x3 : FVec Ideal S2x256x5120 .bf16)

/-! ## The stages of the reference at an index -/

theorem key_at (b : Fin 2) (j : Fin 4352) (l : Fin 1024) : val_main_v28 (F := Ideal) x2 x3 (ix3 b j l) = key x2 x3 b j l := by
  rw [val_main_v28, stack_at, key, kv]
  refine dite_congr rfl (fun h => ?_) (fun h => ?_)
  · rw [val_main_v25_apply, val_main_v24_apply]
    exact congrArg x3 (by idx_ext)
  · rw [val_main_v21_apply, val_main_v20_apply]
    exact congrArg x2 (by idx_ext)

theorem value_at (b : Fin 2) (j : Fin 4352) (l : Fin 1024) : val_main_v30 (F := Ideal) x2 x3 (ix3 b j l) = val x2 x3 b j l := by
  rw [val_main_v30, stack_at, val, kv]
  refine dite_congr rfl (fun h => ?_) (fun h => ?_)
  · rw [val_main_v27_apply, val_main_v26_apply]
    exact congrArg x3 (by idx_ext)
  · rw [val_main_v23_apply, val_main_v22_apply]
    exact congrArg x2 (by idx_ext)

theorem query_at (b : Fin 2) (n : Fin 4096) (l : Fin 1024) : val_main_v18 (F := Ideal) x2 (ix3 b n l) = x2 (ix3 b n ⟨8192 + l, by omega⟩) := by
  rw [val_main_v18_apply, val_main_v17_apply]
  exact congrArg x2 (by idx_ext)

/-- The scores. -/
theorem score_at (b c : Fin 2) (h : Fin 8) (n : Fin 4096) (j : Fin 4352) :
    val_main_v32 (F := Ideal) x2 x3 (ix5 b c h n j) = score x2 x3 b c h n j := by
  rw [val_main_v32_apply, score]
  refine Finset.sum_congr rfl fun d _ => ?_
  have el : lidx_main_v32 (ix5 b c h n j) d = ix5 b n h c d := by idx_ext
  have er : ridx_main_v32 (ix5 b c h n j) d = ix5 b j h c d := by idx_ext
  rw [el, er, val_main_v19, val_main_v29, query_split_at, key_split_at, query_at, key_at]

/-- The row maximum, broadcast. -/
theorem max_at (b c : Fin 2) (h : Fin 8) (n : Fin 4096) (j : Fin 4352) :
    val_main_v37 (F := Ideal) x2 x3 (ix5 b c h n j) = peak (score x2 x3 b c h n) := by
  have e : idx_main_v36 (idx_main_v37 (ix5 b c h n j)) = ix4 b c h n := by idx_ext
  rw [val_main_v37_apply, val_main_v36_apply, val_main_v35_apply, val_main_v34_apply, e, val_main_cst_3, val_main_v33]
  rw [maxReduce_at, funext (score_at x2 x3 b c h n)]
  exact max_negInf_peak _

/-- The exponentials. -/
theorem mass_at (b c : Fin 2) (h : Fin 8) (n : Fin 4096) (j : Fin 4352) :
    val_main_v39 (F := Ideal) x2 x3 (ix5 b c h n j) = mass (score x2 x3 b c h n) j := by
  rw [mass, ← max_at x2 x3 b c h n j, ← score_at, val_main_v39_apply, val_main_v38_apply]
  rfl

/-- The softmax weights. -/
theorem soft_at (b c : Fin 2) (h : Fin 8) (n : Fin 4096) (j : Fin 4352) :
    val_main_v43 (F := Ideal) x2 x3 (ix5 b c h n j)
      = Ideal.div (mass (score x2 x3 b c h n) j) (∑ k, mass (score x2 x3 b c h n) k) := by
  have e : idx_main_v41 (idx_main_v42 (ix5 b c h n j)) = ix4 b c h n := by idx_ext
  rw [val_main_v43_apply, val_main_v42_apply, val_main_v41_apply, e, val_main_v40, sumReduce_at, val_main_cst_4, mass_at]
  rw [Finset.sum_congr rfl fun k _ => mass_at x2 x3 b c h n k]
  pointwise

/-- The mixed values. -/
theorem mix_at (b : Fin 2) (n : Fin 4096) (h : Fin 8) (e : Fin 128) :
    val_main_v52 (F := Ideal) x0 x2 x3 (ix4 b n h e)
      = mix (val_main_v16 (F := Ideal) x0 ix0) (score x2 x3 b 0 h n) (score x2 x3 b 1 h n)
          (fun j l => val x2 x3 b j ⟨h * 128 + l, by omega⟩) e := by
  have e0 : idx_main_v52 (ix4 b n h e) = ix4 b h e n := by idx_ext
  rw [val_main_v52_apply, e0, val_main_v51_apply, mix]
  refine Finset.sum_congr rfl fun j _ => ?_
  have el : lidx_main_v51 (ix4 b h e n) j = ix4 b j h e := by idx_ext
  have er : ridx_main_v51 (ix4 b h e n) j = ix4 b h n j := by idx_ext
  have e1 : idx_main_v48 (ix4 b h n j) = ix0 := by idx_ext
  rw [el, er, val_main_v31, value_split_at, value_at, val_main_v50_apply, val_main_v49_apply, val_main_v48_apply, e1,
    val_main_v45, val_main_v44, first_map_at, val_main_v47, val_main_v46, second_map_at, soft_at, soft_at]
  rfl

theorem unmerged_at (b : Fin 2) (n : Fin 4096) (h : Fin 8) (e : Fin 128) :
    val_main_v69 (F := Ideal) x0 x1 x2 x3 (ix3 b n ⟨h * 128 + e, by omega⟩) = val_main_v68 (F := Ideal) x0 x1 x2 x3 (ix4 b n h e) := by
  unfold val_main_v69
  generalize val_main_v68 (F := Ideal) x0 x1 x2 x3 = y
  exact merge_at y b n h e

/-- The sum of squares of a row. -/
theorem squares_at (b : Fin 2) (n : Fin 4096) (h : Fin 8) :
    val_main_v54 (F := Ideal) x0 x2 x3 (ix3 b n h)
      = ∑ l : Fin 128, val_main_v52 (F := Ideal) x0 x2 x3 (ix4 b n h l) * val_main_v52 (F := Ideal) x0 x2 x3 (ix4 b n h l) := by
  rw [val_main_v54, square_sum_at, val_main_cst_5]
  have e : ∀ l : Fin 128, val_main_v53 (F := Ideal) x0 x2 x3 (ix4 b n h l)
      = val_main_v52 (F := Ideal) x0 x2 x3 (ix4 b n h l) * val_main_v52 (F := Ideal) x0 x2 x3 (ix4 b n h l) := fun l => by
    rw [val_main_v53_apply]
    generalize val_main_v52 (F := Ideal) x0 x2 x3 = y
    rfl
  simp only [e]
  generalize val_main_v52 (F := Ideal) x0 x2 x3 = y
  pointwise

/-- The reference's result. -/
theorem result_at (b : Fin 2) (n : Fin 4096) (h : Fin 8) (e : Fin 128) :
    val_main_v70 (F := Ideal) x0 x1 x2 x3 (ix3 b n ⟨h * 128 + e, by omega⟩)
      = normed (mix (val_main_v16 (F := Ideal) x0 ix0) (score x2 x3 b 0 h n) (score x2 x3 b 1 h n)
          fun j l => val x2 x3 b j ⟨h * 128 + l, by omega⟩)
          (fun l => x1 (ix2 0 l) * Ideal.ofBits .f32 0x3F4CCCCD#32) e := by
  have e1 : idx_main_v55 (idx_main_v61 (ix4 b n h e)) = ix3 b n h := by idx_ext
  have e2 : idx_main_v64 (idx_main_v65 (ix4 b n h e)) = ix1 e := by idx_ext
  have e3 : idx_main_v63 (ix1 e) = ix2 0 e := by idx_ext
  rw [val_main_v70_apply, unmerged_at, val_main_v68_apply, val_main_v67_apply, val_main_v66_apply, val_main_v65_apply,
    val_main_v64_apply, e2, val_main_v63_apply, e3, val_main_v62_apply, val_main_v61_apply, val_main_v60_apply, val_main_v59_apply,
    val_main_v58_apply, val_main_v57_apply, val_main_v56_apply, val_main_v55_apply, e1, squares_at, normed, ← mul_assoc]
  simp only [mix_at]
  rfl

end Cert.ReferenceIdeal.Attn

end
-- ==== Proof.AttnKernel.lean ====
/- Hand-written, untrusted: what one grid point of the attention kernel stores, as `Cert.Attn`'s functions of its blocks. -/
module

public import proofs.«01_k».proof.Proof.AttnMath
public import proofs.«01_k».proof.Proof.Gen.KernelIdeal.Skeleton

@[expose] public section

set_option maxRecDepth 16384

noncomputable section

open Idealize.ShloMosaic
open scoped BigOperators

namespace Cert.KernelIdeal.Attn

open Cert.KernelIdeal Cert.KernelIdeal.Gen Cert.Attn

variable (q : Vec Ideal S1x256x128 .bf16) (k v : Vec Ideal S1x4352x128 .bf16) (lam : Elt Ideal .f32) (w : Vec Ideal S1x128 .f32)

/-- The scores of one map: the block's query row against the keys, over the 64 lanes from `64 c` on. -/
def blkScore (c : Fin 2) (r : Fin 256) (j : Fin 4352) : EReal :=
  ∑ d : Fin 64, (show EReal from q (ix3 0 r ⟨c * 64 + d, by omega⟩)) * (show EReal from k (ix3 0 j ⟨c * 64 + d, by omega⟩))

theorem low_score (r : Fin 256) (j : Fin 4352) :
    ∑ x : Fin 128, Scalar.select (IntOp.cmpi .slt (BitVec.ofNat 32 ↑x) 64#32) ((show EReal from q (ix3 0 r x)) * (show EReal from k (ix3 0 j x))) 0
      = blkScore q k 0 r j := by
  rw [sum_low_lanes fun x => (show EReal from q (ix3 0 r x)) * (show EReal from k (ix3 0 j x)), blkScore]
  refine Finset.sum_congr rfl fun d _ => ?_
  have e : (⟨(0 : Fin 2) * 64 + d, by omega⟩ : Fin 128) = ⟨d, by omega⟩ := Fin.ext (by simp)
  rw [e]

theorem high_score (r : Fin 256) (j : Fin 4352) :
    ∑ x : Fin 128, Scalar.select (IntOp.cmpi .sge (BitVec.ofNat 32 ↑x) 64#32) ((show EReal from q (ix3 0 r x)) * (show EReal from k (ix3 0 j x))) 0
      = blkScore q k 1 r j := by
  rw [sum_high_lanes fun x => (show EReal from q (ix3 0 r x)) * (show EReal from k (ix3 0 j x)), blkScore]
  refine Finset.sum_congr rfl fun d _ => ?_
  have e : (⟨(1 : Fin 2) * 64 + d, by omega⟩ : Fin 128) = ⟨64 + d, by omega⟩ := Fin.ext (by simp)
  rw [e]

/-- The masses of the second map. -/
theorem pay4_at (r : Fin 256) (j : Fin 4352) : k0_pay4 (F := Ideal) q k (ix2 r j) = mass (blkScore q k 1 r) j := by
  rw [mass, peak, ← funext (high_score q k r)]
  pointwise [k0_pay4, k0_pay2, k0_pay3]

/-- Their sum. -/
theorem pay5_at (r : Fin 256) : k0_pay5 (F := Ideal) q k (ix2 r 0) = ∑ j, mass (blkScore q k 1 r) j := by
  rw [← funext (pay4_at q k r)]
  pointwise [k0_pay5]

/-- The masses of the first map, over their sum. -/
theorem pay6_at (r : Fin 256) (j : Fin 4352) :
    k0_pay6 (F := Ideal) q k (ix2 r j) = mass (blkScore q k 0 r) j * Ideal.div 1 (∑ i, mass (blkScore q k 0 r) i) := by
  unfold mass peak
  rw [← funext (low_score q k r)]
  pointwise [k0_pay6, k0_pay2, k0_pay3]

/-- The stored block, of the masses. -/
theorem pay1_at (e1 : FVec Ideal S256x4352 .f32) (l1 : FVec Ideal S256x1 .f32) (a0 : FVec Ideal S256x4352 .f32) (r : Fin 256) (l : Fin 128) :
    k0_pay1 (F := Ideal) e1 l1 a0 (k0_pay7 lam) v w (ix3 0 r l)
      = normed (fun e => ∑ j : Fin 4352, (a0 (ix2 r j) - e1 (ix2 r j) * Ideal.div lam (l1 (ix2 r 0))) * (show EReal from v (ix3 0 j e)))
          (fun e => w (ix2 0 e)) l := by
  pointwise [k0_pay1, k0_pay7, normed]

/-- The stored block, of the loaded ones: at finite scores, the mixed values, normalised. -/
theorem stored_at (r : Fin 256) (l : Fin 128)
    (hf : ∀ c j, blkScore q k c r j ≠ ⊥ ∧ blkScore q k c r j ≠ ⊤) :
    k0_pay1 (F := Ideal) (k0_pay4 q k) (k0_pay5 q k) (k0_pay6 q k) (k0_pay7 lam) v w (ix3 0 r l)
      = normed (mix lam (blkScore q k 0 r) (blkScore q k 1 r) fun j e => v (ix3 0 j e)) (fun e => w (ix2 0 e)) l := by
  rw [pay1_at]
  refine congrArg (fun o => normed o _ l) (funext fun e => Finset.sum_congr rfl fun j _ => ?_)
  rw [pay4_at, pay5_at, pay6_at, mul_comm]
  exact congrArg _ (weight_eq _ _ lam (fun j => (hf 0 j).1) (fun j => (hf 0 j).2) (fun j => (hf 1 j).1) (fun j => (hf 1 j).2) j)

end Cert.KernelIdeal.Attn

end
-- ==== Proof.AttnValue.lean ====
/- Hand-written, untrusted: the attention kernel's result array is the reference's result, at finite queries and keys. -/
module

public import proofs.«01_k».proof.Proof.AttnRef
public import proofs.«01_k».proof.Proof.AttnKernel
public import proofs.«01_k».proof.Proof.Gen.KernelIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen Cert.Attn

variable (m : (ℓ : Loc nD τ sig) → Buf (Elt Ideal) ℓ)

/-- The windows' block indices, and the output's, at a grid point. -/
theorem idx_val : ∀ t : Fin cfg0.N, win0_0.index t = ![0, 0]
    ∧ win0_1.index t = ![t.val / 128, t.val % 16, 64 + (t.val / 16 % 8)]
    ∧ win0_2.index t = ![t.val / 128, 0, t.val / 16 % 8]
    ∧ win0_3.index t = ![t.val / 128, 0, t.val / 16 % 8]
    ∧ win0_4.index t = ![0, 0]
    ∧ win0_5.index t = ![t.val / 128, t.val % 16, t.val / 16 % 8] :=
  (by decide +kernel : ∀ t : Fin grid0.N, _)

/-! ## The arrays the host prepares -/

theorem cell_at (y : FVec Ideal S_ .f32) : shapeCast S1x1 y shapeCasts_S_S1x1 (ix2 0 0) = y ix0 := by
  pointwise

theorem lam_entry (c : Dev nD) :
    V m c main_v17 (ix2 0 0 : S1x1.Idx) = Cert.ReferenceIdeal.Read.val_main_v16 (F := Ideal) (m ((c : Thread nD τ).loc main_arg0)) ix0 := by
  entry_read
  exact (cell_at _).trans rfl

theorem scale_entry (c : Dev nD) (l : Fin 128) :
    V m c main_v21 (ix2 0 l : S1x128.Idx)
      = (show FVec Ideal S1x128 .f32 from m ((c : Thread nD τ).loc main_arg1)) (ix2 0 l) * Ideal.ofBits .f32 0x3F4CCCCD#32 := by
  entry_read
  pointwise

theorem key_entry (c : Dev nD) (b : Fin 2) (j : Fin 4352) (l : Fin 1024) :
    V m c main_v24 (ix3 b j l : S2x4352x1024.Idx) = key (m ((c : Thread nD τ).loc main_arg2)) (m ((c : Thread nD τ).loc main_arg3)) b j l := by
  entry_read
  pointwise [key, kv]

theorem value_entry (c : Dev nD) (b : Fin 2) (j : Fin 4352) (l : Fin 1024) :
    V m c main_v27 (ix3 b j l : S2x4352x1024.Idx) = val (m ((c : Thread nD τ).loc main_arg2)) (m ((c : Thread nD τ).loc main_arg3)) b j l := by
  entry_read
  pointwise [val, kv]

/-! ## The blocks of a grid point -/

/-- The batch entry of a grid point. -/
abbrev bat (t : Fin cfg0.N) : Fin 2 := ⟨t.val / 128, (by decide +kernel : ∀ t : Fin grid0.N, t.val / 128 < 2) t⟩
/-- The head of a grid point. -/
abbrev head (t : Fin cfg0.N) : Fin 8 := ⟨t.val / 16 % 8, by omega⟩
/-- Row `r` of a grid point's block of queries. -/
abbrev row (t : Fin cfg0.N) (r : Fin 256) : Fin 4096 := ⟨t.val % 16 * 256 + r, by omega⟩

theorem lam_block (c : Dev nD) (t : Fin cfg0.N) : iblk m c 0 t (ix2 0 0 : S1x1.Idx) = V m c main_v17 (ix2 0 0 : S1x1.Idx) := by
  blk_ext [iblk, idx_val t]

theorem query_block (c : Dev nD) (t : Fin cfg0.N) (r : Fin 256) (x : Fin 128) :
    iblk m c 1 t (ix3 0 r x : S1x256x128.Idx)
      = (show FVec Ideal S2x4096x13312 .bf16 from m ((c : Thread nD τ).loc main_arg2)) (ix3 (bat t) (row t r) ⟨8192 + (head t * 128 + x), by omega⟩) := by
  blk_ext [iblk, V, idx_val t]

theorem key_block (c : Dev nD) (t : Fin cfg0.N) (j : Fin 4352) (x : Fin 128) :
    iblk m c 2 t (ix3 0 j x : S1x4352x128.Idx) = V m c main_v24 (ix3 (bat t) j ⟨head t * 128 + x, by omega⟩ : S2x4352x1024.Idx) := by
  blk_ext [iblk, idx_val t]

theorem value_block (c : Dev nD) (t : Fin cfg0.N) (j : Fin 4352) (x : Fin 128) :
    iblk m c 3 t (ix3 0 j x : S1x4352x128.Idx) = V m c main_v27 (ix3 (bat t) j ⟨head t * 128 + x, by omega⟩ : S2x4352x1024.Idx) := by
  blk_ext [iblk, idx_val t]

theorem scale_block (c : Dev nD) (t : Fin cfg0.N) (x : Fin 128) :
    iblk m c 4 t (ix2 0 x : S1x128.Idx) = V m c main_v21 (ix2 0 x : S1x128.Idx) := by
  blk_ext [iblk, idx_val t]

/-- The scores of a block are the layer's. -/
theorem score_block (c : Dev nD) (t : Fin cfg0.N) (r : Fin 256) (a : Fin 2) (j : Fin 4352) :
    blkScore (iblk m c 1 t) (iblk m c 2 t) a r j
      = score (m ((c : Thread nD τ).loc main_arg2)) (m ((c : Thread nD τ).loc main_arg3)) (bat t) a (head t) (row t r) j := by
  rw [blkScore, score]
  refine Finset.sum_congr rfl fun d _ => ?_
  refine congrArg₂ (fun x y : EReal => x * y) ((query_block m c t r _).trans ?_) ((key_block m c t j _).trans ((key_entry m c _ _ _).trans ?_))
  · exact congrArg _ (by idx_ext)
  · exact congrArg _ (Fin.ext (Nat.add_assoc _ _ _).symm)

/-- The queries and the keys of device `c` are finite numbers. -/
def Finite (c : Dev nD) : Prop :=
  (∀ (b : Fin 2) (n : Fin 4096) (l : Fin 1024),
    (show FVec Ideal S2x4096x13312 .bf16 from m ((c : Thread nD τ).loc main_arg2)) (ix3 b n ⟨8192 + l, by omega⟩) ≠ ⊥
    ∧ (show FVec Ideal S2x4096x13312 .bf16 from m ((c : Thread nD τ).loc main_arg2)) (ix3 b n ⟨8192 + l, by omega⟩) ≠ ⊤)
  ∧ (∀ (b : Fin 2) (n : Fin 4096) (l : Fin 1024),
    (show FVec Ideal S2x4096x13312 .bf16 from m ((c : Thread nD τ).loc main_arg2)) (ix3 b n ⟨3072 + l, by omega⟩) ≠ ⊥
    ∧ (show FVec Ideal S2x4096x13312 .bf16 from m ((c : Thread nD τ).loc main_arg2)) (ix3 b n ⟨3072 + l, by omega⟩) ≠ ⊤)
  ∧ (∀ (b : Fin 2) (n : Fin 256) (l : Fin 1024),
    (show FVec Ideal S2x256x5120 .bf16 from m ((c : Thread nD τ).loc main_arg3)) (ix3 b n ⟨3072 + l, by omega⟩) ≠ ⊥
    ∧ (show FVec Ideal S2x256x5120 .bf16 from m ((c : Thread nD τ).loc main_arg3)) (ix3 b n ⟨3072 + l, by omega⟩) ≠ ⊤)

/-- At finite queries and keys the scores are finite. -/
theorem score_finite (c : Dev nD) (hf : Finite m c) (b a : Fin 2) (h : Fin 8) (n : Fin 4096) (j : Fin 4352) :
    score (m ((c : Thread nD τ).loc main_arg2)) (m ((c : Thread nD τ).loc main_arg3)) b a h n j ≠ ⊥
    ∧ score (m ((c : Thread nD τ).loc main_arg2)) (m ((c : Thread nD τ).loc main_arg3)) b a h n j ≠ ⊤ := by
  refine sum_mul_finite _ _ (fun d => hf.1 b n ⟨h * 128 + a * 64 + d, by omega⟩) fun d => ?_
  unfold key kv
  split
  · exact hf.2.2 b _ _
  · exact hf.2.1 b _ _

/-- What a grid point stores is the reference's result at the block's place. -/
theorem point (c : Dev nD) (hf : Finite m c) (t : Fin cfg0.N) (r : Fin 256) (l : Fin 128) :
    k0_pay1 (F := Ideal) (k0_pay4 (iblk m c 1 t) (iblk m c 2 t)) (k0_pay5 (iblk m c 1 t) (iblk m c 2 t)) (k0_pay6 (iblk m c 1 t) (iblk m c 2 t))
        (k0_pay7 (iblk m c 0 t (ix2 0 0 : S1x1.Idx))) (iblk m c 3 t) (iblk m c 4 t) (ix3 0 r l)
      = Cert.ReferenceIdeal.Read.val_main_v70 (F := Ideal) (m ((c : Thread nD τ).loc main_arg0)) (m ((c : Thread nD τ).loc main_arg1))
        (m ((c : Thread nD τ).loc main_arg2)) (m ((c : Thread nD τ).loc main_arg3)) (ix3 (bat t) (row t r) ⟨head t * 128 + l, by omega⟩) := by
  have hs : ∀ a, blkScore (iblk m c 1 t) (iblk m c 2 t) a r
      = score (m ((c : Thread nD τ).loc main_arg2)) (m ((c : Thread nD τ).loc main_arg3)) (bat t) a (head t) (row t r) := fun a =>
    funext fun j => score_block m c t r a j
  refine (stored_at _ _ _ _ _ r l fun a j => ?_).trans (Eq.trans ?_ (Cert.ReferenceIdeal.Attn.result_at _ _ _ _ (bat t) (row t r) (head t) l).symm)
  · rw [hs]; exact score_finite m c hf _ _ _ _ _
  · rw [hs, hs, (lam_block m c t).trans (lam_entry m c)]
    refine congrArg₂ (fun o w => normed (mix _ _ _ o) w l) (funext fun j => funext fun e => ?_) (funext fun e => ?_)
    · exact (value_block m c t j e).trans (value_entry m c _ _ _)
    · exact (scale_block m c t e).trans (scale_entry m c e)

/-- The result array. -/
theorem final (c : Dev nD) (hf : Finite m c) : (dats m 0 c).arrAt 5 (cfgs 0).N
    = Cert.ReferenceIdeal.Read.val_main_v70 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  frame_out
  obtain ⟨-, -, -, -, -, e5⟩ := idx_val t
  have ey : (show S1x256x128.Idx from y) = ix3 0 (show Fin 256 from y 1) (show Fin 128 from y 2) := by idx_ext
  have ei : (show S2x4096x1024.Idx from ((View.whole main_v28).slice (win0_5.rect t)).emb y)
      = ix3 (bat t) (row t (show Fin 256 from y 1)) ⟨head t * 128 + (show Fin 128 from y 2), by omega⟩ := by
    blk_ext [e5]
  refine Eq.trans ?_ ((point m c hf t (show Fin 256 from y 1) (show Fin 128 from y 2)).trans (congrArg _ ei.symm))
  refine Eq.trans (congrArg _ ey) ?_
  congr 1

end Cert.KernelIdeal.Attn

end
-- ==== Proof.AttnPre.lean ====
/- Hand-written, untrusted: the precondition `finite_scores`, read. -/
module

public import proofs.«01_k».proof.Defs
public import proofs.«01_k».proof.Proof.AttnValue

@[expose] public section

set_option maxRecDepth 16384

noncomputable section

open Idealize.ShloMosaic Idealize.ShloMosaic.TcCoe Idealize.SL.Sem

namespace Cert.Pre_finite_scores

instance facts : Facts where
  slices_S2x4096x13312_S2x4096x1024_0_0_8192 := by decide
  bitsLt_bf16_f32 := by decide
  bcast_S_S2x4096x1024 := by decide
  slices_S2x4096x13312_S2x4096x1024_0_0_3072 := by decide
  slices_S2x256x5120_S2x256x1024_0_0_3072 := by decide
  bcast_S_S2x256x1024 := by decide

/-- A number whose absolute value is below +∞ is finite. -/
theorem finite_of_lt {x : EReal} (h : max x (-x) < ⊤) : x ≠ ⊥ ∧ x ≠ ⊤ := by
  constructor <;> rintro rfl <;> simp at h

theorem posInf_eq : Ideal.ofBits .f32 0x7F800000#32 = ⊤ := by simp [Ideal.ofBits, Ideal.ieee]

/-- The comparison with +∞ that the precondition makes of an entry says that the entry is finite. -/
theorem finite_of_compared {x : EReal}
    (h : BitVec.ofBool (decide (max x (-x) < Ideal.ofBits .f32 0x7F800000#32)) = 1#1) : x ≠ ⊥ ∧ x ≠ ⊤ := by
  rw [posInf_eq] at h
  by_cases hx : max x (-x) < ⊤
  · exact finite_of_lt hx
  · simp [hx] at h

variable (x0 : FVec Ideal S1x4x64 .f32) (x1 : FVec Ideal S1x128 .f32) (x2 : FVec Ideal S2x4096x13312 .bf16)
  (x3 : FVec Ideal S2x256x5120 .bf16)

/-- The first array of the precondition: the queries are finite. -/
theorem queries (h : (fn (F := Ideal) x0 x1 x2 x3).1 = fun _ => 1#1) (b : Fin 2) (n : Fin 4096) (l : Fin 1024) :
    (show EReal from x2 (ix3 b n ⟨8192 + l, by omega⟩)) ≠ ⊥ ∧ (show EReal from x2 (ix3 b n ⟨8192 + l, by omega⟩)) ≠ ⊤ := by
  have h1 := congrFun h (ix3 b n l)
  pointwise [fn] at h1
  exact finite_of_compared h1

/-- The second: the keys of the main sequence are finite. -/
theorem keys (h : (fn (F := Ideal) x0 x1 x2 x3).2.1 = fun _ => 1#1) (b : Fin 2) (n : Fin 4096) (l : Fin 1024) :
    (show EReal from x2 (ix3 b n ⟨3072 + l, by omega⟩)) ≠ ⊥ ∧ (show EReal from x2 (ix3 b n ⟨3072 + l, by omega⟩)) ≠ ⊤ := by
  have h1 := congrFun h (ix3 b n l)
  pointwise [fn] at h1
  exact finite_of_compared h1

/-- The third: the keys of the context are finite. -/
theorem ctxKeys (h : (fn (F := Ideal) x0 x1 x2 x3).2.2 = fun _ => 1#1) (b : Fin 2) (n : Fin 256) (l : Fin 1024) :
    (show EReal from x3 (ix3 b n ⟨3072 + l, by omega⟩)) ≠ ⊥ ∧ (show EReal from x3 (ix3 b n ⟨3072 + l, by omega⟩)) ≠ ⊤ := by
  have h1 := congrFun h (ix3 b n l)
  pointwise [fn] at h1
  exact finite_of_compared h1

end Cert.Pre_finite_scores

namespace Cert.KernelIdeal.Attn

/-- The precondition gives the finiteness that the value proof uses. -/
theorem finite_of_pre {m : (ℓ : Loc Cert.KernelIdeal.nD Cert.KernelIdeal.τ Cert.KernelIdeal.sig) → Buf (Elt Ideal) ℓ}
    (h : Cert.Pre_KernelIdeal_finite_scores m) (c : Fin Cert.KernelIdeal.nD) : Finite m c :=
  ⟨fun b n l => Cert.Pre_finite_scores.queries _ _ _ _ (h c).1 b n l,
   fun b n l => Cert.Pre_finite_scores.keys _ _ _ _ (h c).2.1 b n l,
   fun b n l => Cert.Pre_finite_scores.ctxKeys _ _ _ _ (h c).2.2 b n l⟩

end Cert.KernelIdeal.Attn

end
-- ==== Proof.Held.lean ====
/- Hand-written, untrusted: what a buffer that is refilled at the first point of each run of points holds. -/
module

public import Idealize.ShloMosaic.Lib.Claim

@[expose] public section

namespace Cert.Held

/-- A point stores a result made from a buffer's content. The buffer is filled with `fill n` at the first point of each
    run of `J` points and kept at the others, and `fill` is the same at all points of a run. Then every point `n` stores
    the result made from `fill n` and leaves `fill n` in the buffer. -/
theorem stored {α β : Type*} {N : ℕ} (J : ℕ) (out : (n : ℕ) → n < N → β × α) (fill : (n : ℕ) → n < N → α)
    (store : (n : ℕ) → n < N → α → β)
    (first : ∀ n h, n % J = 0 → out n h = (store n h (fill n h), fill n h))
    (later : ∀ n h h', ¬(n + 1) % J = 0 → out (n + 1) h = (store (n + 1) h (out n h').2, (out n h').2))
    (same : ∀ n h h', ¬(n + 1) % J = 0 → fill (n + 1) h = fill n h') :
    ∀ n h, out n h = (store n h (fill n h), fill n h)
  | 0, h => first 0 h (Nat.zero_mod J)
  | n + 1, h => by
    by_cases h0 : (n + 1) % J = 0
    · exact first _ h h0
    · rw [later n h (Nat.lt_of_succ_lt h) h0, same n h (Nat.lt_of_succ_lt h) h0,
        stored J out fill store first later same n (Nat.lt_of_succ_lt h)]

end Cert.Held
-- ==== Proof.RetOutValue.lean ====
/- Hand-written, untrusted: the result of the call `ret_out` is the reference's. -/
module

public import proofs.«01_k».proof.Proof.Held
public import proofs.«01_k».proof.Proof.Gen.RetOutIdeal.Value
public import proofs.«01_k».proof.Proof.Gen.RetOutReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.RetOutIdeal.Call

open Cert.RetOutIdeal Cert.RetOutIdeal.Gen

variable (m : (ℓ : Loc nD τ sig) → Buf (Elt Ideal) ℓ)

/-- The windows' block indices at a grid point. -/
theorem idx_val : ∀ t : Fin cfg0.N, win0_0.index t = ![t.val % 8, 0] ∧ win0_1.index t = ![0, t.val / 8]
    ∧ win0_2.index t = ![t.val % 8, 9 + t.val / 8] ∧ win0_3.index t = ![t.val % 8, t.val / 8] :=
  (by decide +kernel : ∀ t : Fin grid0.N, _)

/-- What a point stores and what it leaves in the scratch: the weight block of the point's column of blocks is in the
    scratch, as it is filled at the column's first point. -/
theorem stored (c : Dev nD) (t : Fin cfg0.N) : outsAt0 m c t.val t.isLt
    = (k0_pay2 (F := Ideal) (iblk m c 0 t) (k0_pay1 (F := Ideal) (iblk m c 1 t)) (iblk m c 2 t),
      k0_pay1 (F := Ideal) (iblk m c 1 t)) := by
  refine Held.stored 8 (outsAt0 m c) (fun n h => k0_pay1 (F := Ideal) (iblk m c 1 ⟨n, h⟩))
    (fun n h s => k0_pay2 (F := Ideal) (iblk m c 0 ⟨n, h⟩) s (iblk m c 2 ⟨n, h⟩)) ?_ ?_ ?_ t.val t.isLt
  · intro n h h0
    rw [outsAt0_A m c ⟨n, h⟩ h0]
    refine Prod.ext ?_ ?_ <;> frame_out
  · intro n h h' h0
    rw [outsAt0_B m c ⟨n + 1, h⟩ h0]
    refine Prod.ext ?_ rfl
    frame_out
    exact congrArg (fun s => k0_pay2 (F := Ideal) (iblk m c 0 ⟨n + 1, h⟩) s (iblk m c 2 ⟨n + 1, h⟩))
      (Memref.IsWhole.read_unread _ _)
  · intro n h h' h0
    refine congrArg (k0_pay1 (F := Ideal)) (funext fun y => ?_)
    blk_ext [iblk, idx_val ⟨n + 1, h⟩, idx_val ⟨n, h'⟩]

/-- The reference's result. -/
abbrev ref (c : Dev nD) := Cert.RetOutReferenceIdeal.Read.val_main_v13 (F := Ideal)
  (m ((c : Thread nD τ).loc main_arg0)) (m ((c : Thread nD τ).loc main_arg1)) (m ((c : Thread nD τ).loc main_arg2))

/-- An element of what a point stores is the reference's at the block's place. -/
theorem point (c : Dev nD) (t : Fin cfg0.N) (r : Fin 1024) (l : Fin 1024) :
    k0_pay2 (F := Ideal) (iblk m c 0 t) (k0_pay1 (F := Ideal) (iblk m c 1 t)) (iblk m c 2 t) (ix2 r l)
      = ref m c (ix2 ⟨t.val % 8 * 1024 + r, by omega⟩
          ⟨t.val / 8 * 1024 + l, by have : t.val < 16 := lt_of_lt_of_eq t.isLt (show cfg0.N = 16 from N_0); omega⟩) := by
  pointwise [k0_pay2, k0_pay1, ref, Cert.RetOutReferenceIdeal.Read.val_main_v0, Cert.RetOutReferenceIdeal.Read.val_main_v1,
      Cert.RetOutReferenceIdeal.Read.val_main_v2, Cert.RetOutReferenceIdeal.Read.val_main_v3,
      Cert.RetOutReferenceIdeal.Read.val_main_v4, Cert.RetOutReferenceIdeal.Read.val_main_v5,
      Cert.RetOutReferenceIdeal.Read.val_main_v6, Cert.RetOutReferenceIdeal.Read.val_main_v7,
      Cert.RetOutReferenceIdeal.Read.val_main_cst, Cert.RetOutReferenceIdeal.Read.val_main_v8,
      Cert.RetOutReferenceIdeal.Read.val_main_v9, Cert.RetOutReferenceIdeal.Read.val_main_cst_0,
      Cert.RetOutReferenceIdeal.Read.val_main_v10, Cert.RetOutReferenceIdeal.Read.val_main_v11,
      Cert.RetOutReferenceIdeal.Read.val_main_v12, Cert.RetOutReferenceIdeal.Read.val_main_v13]
  rw [zero_sub]
  blk_point [iblk, V, idx_val t]

/-- The result array. -/
theorem final (c : Dev nD) : (dats m 0 c).arrAt 3 (cfgs 0).N = ref m c := by
  refine (dats m 0 c).arrAt_eq_of_covers 3 _ (by decide +kernel) fun t hf y => ?_
  blk_simp
  rw [after0_3, stored]
  idx_vars y
  refine (point m c t _ _).trans (congrArg _ ?_)
  blk_ext [idx_val t]

end Cert.RetOutIdeal.Call

end
-- ==== Proof.DiffOutValue.lean ====
/- Hand-written, untrusted: the result of the call `diff_out` is the reference's. -/
module

public import proofs.«01_k».proof.Proof.Held
public import proofs.«01_k».proof.Proof.Gen.DiffOutIdeal.Value
public import proofs.«01_k».proof.Proof.Gen.DiffOutReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DiffOutIdeal.Call

open Cert.DiffOutIdeal Cert.DiffOutIdeal.Gen

variable (m : (ℓ : Loc nD τ sig) → Buf (Elt Ideal) ℓ)

/-- The windows' block indices at a grid point. -/
theorem idx_val : ∀ t : Fin cfg0.N, win0_0.index t = ![t.val % 8, 0] ∧ win0_1.index t = ![0, t.val / 8]
    ∧ win0_2.index t = ![t.val % 8, 11 + t.val / 8] ∧ win0_3.index t = ![t.val % 8, t.val / 8]
    ∧ win0_4.index t = ![t.val % 8, t.val / 8] :=
  (by decide +kernel : ∀ t : Fin grid0.N, _)

/-- What a point stores and what it leaves in the scratch: the weight block of the point's column of blocks is in the
    scratch, as it is filled at the column's first point. -/
theorem stored (c : Dev nD) (t : Fin cfg0.N) : outsAt0 m c t.val t.isLt
    = (k0_pay2 (F := Ideal) (iblk m c 0 t) (k0_pay1 (F := Ideal) (iblk m c 1 t)) (iblk m c 3 t) (iblk m c 2 t),
      k0_pay1 (F := Ideal) (iblk m c 1 t)) := by
  refine Held.stored 8 (outsAt0 m c) (fun n h => k0_pay1 (F := Ideal) (iblk m c 1 ⟨n, h⟩))
    (fun n h s => k0_pay2 (F := Ideal) (iblk m c 0 ⟨n, h⟩) s (iblk m c 3 ⟨n, h⟩) (iblk m c 2 ⟨n, h⟩)) ?_ ?_ ?_ t.val t.isLt
  · intro n h h0
    rw [outsAt0_A m c ⟨n, h⟩ h0]
    refine Prod.ext ?_ ?_ <;> frame_out
  · intro n h h' h0
    rw [outsAt0_B m c ⟨n + 1, h⟩ h0]
    refine Prod.ext ?_ rfl
    frame_out
    exact congrArg (fun s => k0_pay2 (F := Ideal) (iblk m c 0 ⟨n + 1, h⟩) s (iblk m c 3 ⟨n + 1, h⟩) (iblk m c 2 ⟨n + 1, h⟩))
      (Memref.IsWhole.read_unread _ _)
  · intro n h h' h0
    refine congrArg (k0_pay1 (F := Ideal)) (funext fun y => ?_)
    blk_ext [iblk, idx_val ⟨n + 1, h⟩, idx_val ⟨n, h'⟩]

/-- The reference's result. -/
abbrev ref (c : Dev nD) := Cert.DiffOutReferenceIdeal.Read.val_main_v15 (F := Ideal)
  (m ((c : Thread nD τ).loc main_arg0)) (m ((c : Thread nD τ).loc main_arg1)) (m ((c : Thread nD τ).loc main_arg2)) (m ((c : Thread nD τ).loc main_arg3))

/-- An element of what a point stores is the reference's at the block's place. -/
theorem point (c : Dev nD) (t : Fin cfg0.N) (r : Fin 1024) (l : Fin 1024) :
    k0_pay2 (F := Ideal) (iblk m c 0 t) (k0_pay1 (F := Ideal) (iblk m c 1 t)) (iblk m c 3 t) (iblk m c 2 t) (ix2 r l)
      = ref m c (ix2 ⟨t.val % 8 * 1024 + r, by omega⟩
          ⟨t.val / 8 * 1024 + l, by have : t.val < 16 := lt_of_lt_of_eq t.isLt (show cfg0.N = 16 from N_0); omega⟩) := by
  pointwise [k0_pay2, k0_pay1, ref, Cert.DiffOutReferenceIdeal.Read.val_main_v0, Cert.DiffOutReferenceIdeal.Read.val_main_v1,
      Cert.DiffOutReferenceIdeal.Read.val_main_v2, Cert.DiffOutReferenceIdeal.Read.val_main_v3,
      Cert.DiffOutReferenceIdeal.Read.val_main_v4, Cert.DiffOutReferenceIdeal.Read.val_main_v5,
      Cert.DiffOutReferenceIdeal.Read.val_main_v6, Cert.DiffOutReferenceIdeal.Read.val_main_v7,
      Cert.DiffOutReferenceIdeal.Read.val_main_v8, Cert.DiffOutReferenceIdeal.Read.val_main_cst,
      Cert.DiffOutReferenceIdeal.Read.val_main_v9, Cert.DiffOutReferenceIdeal.Read.val_main_v10,
      Cert.DiffOutReferenceIdeal.Read.val_main_cst_0, Cert.DiffOutReferenceIdeal.Read.val_main_v11,
      Cert.DiffOutReferenceIdeal.Read.val_main_v12, Cert.DiffOutReferenceIdeal.Read.val_main_v13,
      Cert.DiffOutReferenceIdeal.Read.val_main_v14, Cert.DiffOutReferenceIdeal.Read.val_main_v15]
  rw [zero_sub]
  blk_point [iblk, V, idx_val t]

/-- The result array. -/
theorem final (c : Dev nD) : (dats m 0 c).arrAt 4 (cfgs 0).N = ref m c := by
  refine (dats m 0 c).arrAt_eq_of_covers 4 _ (by decide +kernel) fun t hf y => ?_
  blk_simp
  rw [after0_4, stored]
  idx_vars y
  refine (point m c t _ _).trans (congrArg _ ?_)
  blk_ext [idx_val t]

end Cert.DiffOutIdeal.Call

end
-- ==== Proof.MixOutValue.lean ====
/- Hand-written, untrusted: the result of the call `mix_out` is the reference's. -/
module

public import proofs.«01_k».proof.Proof.Held
public import proofs.«01_k».proof.Proof.Gen.MixOutIdeal.Value
public import proofs.«01_k».proof.Proof.Gen.MixOutReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Call

open Cert.MixOutIdeal Cert.MixOutIdeal.Gen

variable (m : (ℓ : Loc nD τ sig) → Buf (Elt Ideal) ℓ)

/-- The windows' block indices at a grid point. -/
theorem idx_val : ∀ t : Fin cfg0.N, win0_0.index t = ![t.val % 8, 0] ∧ win0_1.index t = ![0, t.val / 8]
    ∧ win0_2.index t = ![t.val % 8, t.val / 8] ∧ win0_3.index t = ![t.val % 8 / 4, 0, t.val / 8]
    ∧ win0_4.index t = ![t.val % 8, t.val / 8] :=
  (by decide +kernel : ∀ t : Fin grid0.N, _)

/-- What a point stores and what it leaves in the scratch: the weight block of the point's column of blocks is in the
    scratch, as it is filled at the column's first point. -/
theorem stored (c : Dev nD) (t : Fin cfg0.N) : outsAt0 m c t.val t.isLt
    = (k0_pay2 (F := Ideal) (iblk m c 0 t) (k0_pay1 (F := Ideal) (iblk m c 1 t)) (iblk m c 2 t) (iblk m c 3 t),
      k0_pay1 (F := Ideal) (iblk m c 1 t)) := by
  refine Held.stored 8 (outsAt0 m c) (fun n h => k0_pay1 (F := Ideal) (iblk m c 1 ⟨n, h⟩))
    (fun n h s => k0_pay2 (F := Ideal) (iblk m c 0 ⟨n, h⟩) s (iblk m c 2 ⟨n, h⟩) (iblk m c 3 ⟨n, h⟩)) ?_ ?_ ?_ t.val t.isLt
  · intro n h h0
    rw [outsAt0_A m c ⟨n, h⟩ h0]
    refine Prod.ext ?_ ?_ <;> frame_out
  · intro n h h' h0
    rw [outsAt0_B m c ⟨n + 1, h⟩ h0]
    refine Prod.ext ?_ rfl
    frame_out
    exact congrArg (fun s => k0_pay2 (F := Ideal) (iblk m c 0 ⟨n + 1, h⟩) s (iblk m c 2 ⟨n + 1, h⟩) (iblk m c 3 ⟨n + 1, h⟩))
      (Memref.IsWhole.read_unread _ _)
  · intro n h h' h0
    refine congrArg (k0_pay1 (F := Ideal)) (funext fun y => ?_)
    blk_ext [iblk, idx_val ⟨n + 1, h⟩, idx_val ⟨n, h'⟩]

/-- The reference's result. -/
abbrev ref (c : Dev nD) := Cert.MixOutReferenceIdeal.Read.val_main_v8 (F := Ideal)
  (m ((c : Thread nD τ).loc main_arg0)) (m ((c : Thread nD τ).loc main_arg1)) (m ((c : Thread nD τ).loc main_arg2)) (m ((c : Thread nD τ).loc main_arg3))

/-- An element of what a point stores is the reference's at the block's place. -/
theorem point (c : Dev nD) (t : Fin cfg0.N) (r : Fin 1024) (l : Fin 1024) :
    k0_pay2 (F := Ideal) (iblk m c 0 t) (k0_pay1 (F := Ideal) (iblk m c 1 t)) (iblk m c 2 t) (iblk m c 3 t) (ix2 r l)
      = ref m c (ix2 ⟨t.val % 8 * 1024 + r, by omega⟩
          ⟨t.val / 8 * 1024 + l, by have : t.val < 16 := lt_of_lt_of_eq t.isLt (show cfg0.N = 16 from N_0); omega⟩) := by
  pointwise [k0_pay2, k0_pay1, ref, Cert.MixOutReferenceIdeal.Read.val_main_v0, Cert.MixOutReferenceIdeal.Read.val_main_v1,
      Cert.MixOutReferenceIdeal.Read.val_main_v2, Cert.MixOutReferenceIdeal.Read.val_main_v3,
      Cert.MixOutReferenceIdeal.Read.val_main_v4, Cert.MixOutReferenceIdeal.Read.val_main_v5,
      Cert.MixOutReferenceIdeal.Read.val_main_v6, Cert.MixOutReferenceIdeal.Read.val_main_v7,
      Cert.MixOutReferenceIdeal.Read.val_main_v8]
  blk_point [iblk, V, idx_val t]

/-- The result array. -/
theorem final (c : Dev nD) : (dats m 0 c).arrAt 4 (cfgs 0).N = ref m c := by
  refine (dats m 0 c).arrAt_eq_of_covers 4 _ (by decide +kernel) fun t hf y => ?_
  blk_simp
  rw [after0_4, stored]
  idx_vars y
  refine (point m c t _ _).trans (congrArg _ ?_)
  blk_ext [idx_val t]

end Cert.MixOutIdeal.Call

end
-- ==== Proof.SharedUpValue.lean ====
/- Hand-written, untrusted: the result of the call `shared_up` is the reference's. -/
module

public import proofs.«01_k».proof.Proof.Held
public import proofs.«01_k».proof.Proof.Gen.SharedUpIdeal.Value
public import proofs.«01_k».proof.Proof.Gen.SharedUpReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SharedUpIdeal.Call

open Cert.SharedUpIdeal Cert.SharedUpIdeal.Gen

variable (m : (ℓ : Loc nD τ sig) → Buf (Elt Ideal) ℓ)

/-- The windows' block indices at a grid point. -/
theorem idx_val : ∀ t : Fin cfg0.N, win0_0.index t = ![t.val % 8, 0] ∧ win0_1.index t = ![0, t.val / 8]
    ∧ win0_2.index t = ![t.val % 8, t.val / 8] :=
  (by decide +kernel : ∀ t : Fin grid0.N, _)

/-- What a point stores and what it leaves in the scratch: the weight block of the point's column of blocks is in the
    scratch, as it is filled at the column's first point. -/
theorem stored (c : Dev nD) (t : Fin cfg0.N) : outsAt0 m c t.val t.isLt
    = (k0_pay2 (F := Ideal) (iblk m c 0 t) (k0_pay1 (F := Ideal) (iblk m c 1 t)),
      k0_pay1 (F := Ideal) (iblk m c 1 t)) := by
  refine Held.stored 8 (outsAt0 m c) (fun n h => k0_pay1 (F := Ideal) (iblk m c 1 ⟨n, h⟩))
    (fun n h s => k0_pay2 (F := Ideal) (iblk m c 0 ⟨n, h⟩) s) ?_ ?_ ?_ t.val t.isLt
  · intro n h h0
    rw [outsAt0_A m c ⟨n, h⟩ h0]
    refine Prod.ext ?_ ?_ <;> frame_out
  · intro n h h' h0
    rw [outsAt0_B m c ⟨n + 1, h⟩ h0]
    refine Prod.ext ?_ rfl
    frame_out
    exact congrArg (fun s => k0_pay2 (F := Ideal) (iblk m c 0 ⟨n + 1, h⟩) s)
      (Memref.IsWhole.read_unread _ _)
  · intro n h h' h0
    refine congrArg (k0_pay1 (F := Ideal)) (funext fun y => ?_)
    blk_ext [iblk, idx_val ⟨n + 1, h⟩, idx_val ⟨n, h'⟩]

/-- The reference's result. -/
abbrev ref (c : Dev nD) := Cert.SharedUpReferenceIdeal.Read.val_main_v7 (F := Ideal)
  (m ((c : Thread nD τ).loc main_arg0)) (m ((c : Thread nD τ).loc main_arg1))

/-- An element of what a point stores is the reference's at the block's place. -/
theorem point (c : Dev nD) (t : Fin cfg0.N) (r : Fin 1024) (l : Fin 256) :
    k0_pay2 (F := Ideal) (iblk m c 0 t) (k0_pay1 (F := Ideal) (iblk m c 1 t)) (ix2 r l)
      = ref m c (ix2 ⟨t.val % 8 * 1024 + r, by omega⟩
          ⟨t.val / 8 * 256 + l, by have : t.val < 8 := lt_of_lt_of_eq t.isLt (show cfg0.N = 8 from N_0); omega⟩) := by
  pointwise [k0_pay2, k0_pay1, ref, Cert.SharedUpReferenceIdeal.Read.val_main_v0, Cert.SharedUpReferenceIdeal.Read.val_main_v1,
      Cert.SharedUpReferenceIdeal.Read.val_main_v2, Cert.SharedUpReferenceIdeal.Read.val_main_v3,
      Cert.SharedUpReferenceIdeal.Read.val_main_v4, Cert.SharedUpReferenceIdeal.Read.val_main_call0_v0,
      Cert.SharedUpReferenceIdeal.Read.val_main_call0_v1, Cert.SharedUpReferenceIdeal.Read.val_main_call0_cst,
      Cert.SharedUpReferenceIdeal.Read.val_main_call0_v2, Cert.SharedUpReferenceIdeal.Read.val_main_call0_v3,
      Cert.SharedUpReferenceIdeal.Read.val_main_call0_cst_0, Cert.SharedUpReferenceIdeal.Read.val_main_call0_v4,
      Cert.SharedUpReferenceIdeal.Read.val_main_call0_v5, Cert.SharedUpReferenceIdeal.Read.val_main_v5,
      Cert.SharedUpReferenceIdeal.Read.val_main_v6, Cert.SharedUpReferenceIdeal.Read.val_main_v7]
  rw [zero_sub]
  blk_point [iblk, V, idx_val t]

/-- The result array. -/
theorem final (c : Dev nD) : (dats m 0 c).arrAt 2 (cfgs 0).N = ref m c := by
  refine (dats m 0 c).arrAt_eq_of_covers 2 _ (by decide +kernel) fun t hf y => ?_
  blk_simp
  rw [after0_2, stored]
  idx_vars y
  refine (point m c t _ _).trans (congrArg _ ?_)
  blk_ext [idx_val t]

end Cert.SharedUpIdeal.Call

end
-- ==== Proof.FinalValue.lean ====
/- Hand-written, untrusted: the result of the call `shared_down_final` is the reference's. -/
module

public import proofs.«01_k».proof.Proof.Held
public import proofs.«01_k».proof.Proof.Gen.FinalIdeal.Value
public import proofs.«01_k».proof.Proof.Gen.FinalReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FinalIdeal.Call

open Cert.FinalIdeal Cert.FinalIdeal.Gen

variable (m : (ℓ : Loc nD τ sig) → Buf (Elt Ideal) ℓ)

/-- The windows' block indices at a grid point. -/
theorem idx_val : ∀ t : Fin cfg0.N, win0_0.index t = ![t.val % 16, 0] ∧ win0_1.index t = ![0, 0]
    ∧ win0_2.index t = ![t.val % 16, 0] ∧ win0_3.index t = ![t.val % 16, 0] ∧ win0_4.index t = ![t.val % 16 / 8, 0, 0]
    ∧ win0_5.index t = ![0, 0] ∧ win0_6.index t = ![t.val % 16, 0] :=
  (by decide +kernel : ∀ t : Fin grid0.N, _)

/-- What a point stores and what it leaves in the scratch: the weight block of the point's column of blocks is in the
    scratch, as it is filled at the column's first point. -/
theorem stored (c : Dev nD) (t : Fin cfg0.N) : outsAt0 m c t.val t.isLt
    = (k0_pay2 (F := Ideal) (iblk m c 0 t) (k0_pay1 (F := Ideal) (iblk m c 1 t)) (iblk m c 3 t) (iblk m c 4 t) (iblk m c 2 t) (iblk m c 5 t),
      k0_pay1 (F := Ideal) (iblk m c 1 t)) := by
  refine Held.stored 16 (outsAt0 m c) (fun n h => k0_pay1 (F := Ideal) (iblk m c 1 ⟨n, h⟩))
    (fun n h s => k0_pay2 (F := Ideal) (iblk m c 0 ⟨n, h⟩) s (iblk m c 3 ⟨n, h⟩) (iblk m c 4 ⟨n, h⟩) (iblk m c 2 ⟨n, h⟩) (iblk m c 5 ⟨n, h⟩)) ?_ ?_ ?_ t.val t.isLt
  · intro n h h0
    rw [outsAt0_A m c ⟨n, h⟩ h0]
    refine Prod.ext ?_ ?_ <;> frame_out
  · intro n h h' h0
    rw [outsAt0_B m c ⟨n + 1, h⟩ h0]
    refine Prod.ext ?_ rfl
    frame_out
    exact congrArg (fun s => k0_pay2 (F := Ideal) (iblk m c 0 ⟨n + 1, h⟩) s (iblk m c 3 ⟨n + 1, h⟩) (iblk m c 4 ⟨n + 1, h⟩) (iblk m c 2 ⟨n + 1, h⟩) (iblk m c 5 ⟨n + 1, h⟩))
      (Memref.IsWhole.read_unread _ _)
  · intro n h h' h0
    refine congrArg (k0_pay1 (F := Ideal)) (funext fun y => ?_)
    blk_ext [iblk, idx_val ⟨n + 1, h⟩, idx_val ⟨n, h'⟩]

/-- The reference's result. -/
abbrev ref (c : Dev nD) := Cert.FinalReferenceIdeal.Read.val_main_v23 (F := Ideal)
  (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- An element of what a point stores is the reference's at the block's place. -/
theorem point (c : Dev nD) (t : Fin cfg0.N) (r : Fin 512) (l : Fin 2048) :
    k0_pay2 (F := Ideal) (iblk m c 0 t) (k0_pay1 (F := Ideal) (iblk m c 1 t)) (iblk m c 3 t) (iblk m c 4 t) (iblk m c 2 t) (iblk m c 5 t) (ix2 r l)
      = ref m c (ix2 ⟨t.val % 16 * 512 + r, by omega⟩ l) := by
  have hr : t.val % 16 * 512 + r.val < 8192 := by omega
  have h0 : ∀ q : Fin 256, iblk m c 0 t (ix2 r q) = m ((c : Thread nD τ).loc main_arg2)
      (ix2 ⟨(t.val % 16 * 512 + r) / 4096 * 4096 + (t.val % 16 * 512 + r) % 4096, by omega⟩ q) := fun q => by
    blk_point [iblk, V, idx_val t]
  have h1 : ∀ (q : Fin 256) (k : Fin 2048), iblk m c 1 t (ix2 q k) = m ((c : Thread nD τ).loc main_arg0) (ix3 0 q k) :=
    fun q k => by blk_point [iblk, V, idx_val t]
  have h2 : ∀ k : Fin 2048, iblk m c 2 t (ix2 r k) = m ((c : Thread nD τ).loc main_arg3)
      (ix2 ⟨(t.val % 16 * 512 + r) / 4096 * 4096 + (t.val % 16 * 512 + r) % 4096, by omega⟩ k) := fun k => by
    blk_point [iblk, V, idx_val t]
  have h3 : ∀ k : Fin 2048, iblk m c 3 t (ix2 r k) = m ((c : Thread nD τ).loc main_arg4)
      (ix2 ⟨(t.val % 16 * 512 + r) / 4096 * 4096 + (t.val % 16 * 512 + r) % 4096, by omega⟩ k) := fun k => by
    blk_point [iblk, V, idx_val t]
  have h4 : ∀ k : Fin 2048, iblk m c 4 t (ix3 0 0 k) = m ((c : Thread nD τ).loc main_arg5)
      (ix2 ⟨(t.val % 16 * 512 + r) / 4096, by omega⟩ k) := fun k => by blk_point [iblk, V, idx_val t]
  have h5 : iblk m c 5 t (ix2 0 l) = m ((c : Thread nD τ).loc main_arg1) (ix1 l) := by blk_point [iblk, V, idx_val t]
  pointwise [k0_pay2, k0_pay1, ref, Cert.FinalReferenceIdeal.Read.val_main_v0, Cert.FinalReferenceIdeal.Read.val_main_v1,
      Cert.FinalReferenceIdeal.Read.val_main_v2, Cert.FinalReferenceIdeal.Read.val_main_v3,
      Cert.FinalReferenceIdeal.Read.val_main_v4, Cert.FinalReferenceIdeal.Read.val_main_v5,
      Cert.FinalReferenceIdeal.Read.val_main_v6, Cert.FinalReferenceIdeal.Read.val_main_v7,
      Cert.FinalReferenceIdeal.Read.val_main_v8, Cert.FinalReferenceIdeal.Read.val_main_v9,
      Cert.FinalReferenceIdeal.Read.val_main_v10, Cert.FinalReferenceIdeal.Read.val_main_cst,
      Cert.FinalReferenceIdeal.Read.val_main_v11, Cert.FinalReferenceIdeal.Read.val_main_v12,
      Cert.FinalReferenceIdeal.Read.val_main_cst_0, Cert.FinalReferenceIdeal.Read.val_main_v13,
      Cert.FinalReferenceIdeal.Read.val_main_v14, Cert.FinalReferenceIdeal.Read.val_main_cst_1,
      Cert.FinalReferenceIdeal.Read.val_main_v15, Cert.FinalReferenceIdeal.Read.val_main_v16,
      Cert.FinalReferenceIdeal.Read.val_main_v17, Cert.FinalReferenceIdeal.Read.val_main_v18,
      Cert.FinalReferenceIdeal.Read.val_main_v19, Cert.FinalReferenceIdeal.Read.val_main_v20,
      Cert.FinalReferenceIdeal.Read.val_main_v21, Cert.FinalReferenceIdeal.Read.val_main_v22,
      Cert.FinalReferenceIdeal.Read.val_main_v23]
  simp only [h0, h1, h2, h3, h4, h5]

/-- The result array. -/
theorem final (c : Dev nD) : (dats m 0 c).arrAt 6 (cfgs 0).N = ref m c := by
  refine (dats m 0 c).arrAt_eq_of_covers 6 _ (by decide +kernel) fun t hf y => ?_
  blk_simp
  rw [after0_6, stored]
  idx_vars y
  refine (point m c t _ _).trans (congrArg _ ?_)
  blk_ext [idx_val t]

end Cert.FinalIdeal.Call

end
-- ==== Proof.CtxProjValue.lean ====
/- Hand-written, untrusted: the result of the call `ctx_proj` is the reference's. -/
module

public import proofs.«01_k».proof.Proof.Held
public import proofs.«01_k».proof.Proof.Gen.CtxProjIdeal.Value
public import proofs.«01_k».proof.Proof.Gen.CtxProjReferenceIdeal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CtxProjIdeal.Call

open Cert.CtxProjIdeal Cert.CtxProjIdeal.Gen

variable (m : (ℓ : Loc nD τ sig) → Buf (Elt Ideal) ℓ)

/-- The windows' block indices at a grid point. -/
theorem idx_val : ∀ t : Fin cfg0.N, win0_0.index t = ![0, 0] ∧ win0_1.index t = ![0, t.val]
    ∧ win0_2.index t = ![0, t.val] :=
  (by decide +kernel : ∀ t : Fin grid0.N, _)

/-- The reference's result. -/
abbrev ref (c : Dev nD) := Cert.CtxProjReferenceIdeal.Read.val_main_v4 (F := Ideal)
  (m ((c : Thread nD τ).loc main_arg0)) (m ((c : Thread nD τ).loc main_arg1))

/-- An element of what a point stores is the reference's at the block's place. -/
theorem point (c : Dev nD) (t : Fin cfg0.N) (r : Fin 512) (l : Fin 1024) :
    k0_pay2 (F := Ideal) (iblk m c 0 t) (k0_pay1 (F := Ideal) (iblk m c 1 t)) (ix2 r l)
      = ref m c (ix2 ⟨r, by omega⟩
          ⟨t.val * 1024 + l, by have : t.val < 5 := lt_of_lt_of_eq t.isLt (show cfg0.N = 5 from N_0); omega⟩) := by
  pointwise [k0_pay2, k0_pay1, ref, Cert.CtxProjReferenceIdeal.Read.val_main_v0, Cert.CtxProjReferenceIdeal.Read.val_main_v1,
      Cert.CtxProjReferenceIdeal.Read.val_main_v2, Cert.CtxProjReferenceIdeal.Read.val_main_v3,
      Cert.CtxProjReferenceIdeal.Read.val_main_v4]
  blk_point [iblk, V, idx_val t]

/-- The result array. -/
theorem final (c : Dev nD) : (dats m 0 c).arrAt 2 (cfgs 0).N = ref m c := by
  refine (dats m 0 c).arrAt_eq_of_covers 2 _ (by decide +kernel) fun t hf y => ?_
  blk_simp
  rw [after0_2]
  unfold outsAt0
  frame_out
  idx_vars y
  refine (point m c t _ _).trans (congrArg _ ?_)
  blk_ext [idx_val t]

end Cert.CtxProjIdeal.Call

end
-- ==== Proof.InProjFrame.lean ====
/-
The run of the input projection.  Point `t` of the grid (13 × 8, the row block moving fastest) multiplies a block of
activations by a block of 1024 weight columns, rotates the columns of the heads that carry positions, and stores the
block.  The weights' block is rounded into a scratch buffer at the first row block of each column and read from there
at the other seven.  Stated for any arithmetic.
-/
module

public import proofs.«01_k».proof.Proof.Gen.InProjIdeal.Frame
public import Idealize.ShloMosaic.Lib.Claim
public import Idealize.ShloMosaic.Lib.Pipeline.ValueKit
public import Idealize.ShloMosaic.Lib.VecWindow

@[expose] public section

set_option maxRecDepth 16384

noncomputable section

namespace Cert.InProjIdeal.Call

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.InProjIdeal Cert.InProjIdeal.Gen

variable {F : FTy → Type} [FloatOps F]

local notation "𝕄" => MT nD τ sig Unit (Elt F) ℕ (UR sig nD τ) ℕ

/-! ## The four branch conditions over the grid -/

/-- The first row block of a column. -/
abbrev First (i : grid0.Coords) : Prop :=
  (Scalar.cmpi .ne (Scalar.extui (Scalar.cmpi .eq (BitVec.ofNat 32 (i 1).val) 0#32)) 0#32) = 1#1

/-- The rounding of the weights' block comes at every eighth point. -/
theorem first_iff : ∀ t : Fin grid0.N, First (grid0.coords t) ↔ t.val % 8 = 0 := by decide +kernel

/-- The columns of the wide heads that carry positions. -/
theorem wide_iff : ∀ t : Fin grid0.N, k0_cond2 (grid0.coords t) = 1#1 ↔ t.val / 8 = 0 ∨ t.val / 8 = 5 := by decide +kernel

/-- The columns of the narrow heads that carry positions. -/
theorem narrow_iff : ∀ t : Fin grid0.N, k0_cond3 (grid0.coords t) = 1#1 ↔ t.val / 8 = 3 ∨ t.val / 8 = 8 := by decide +kernel

/-- The columns that carry none. -/
theorem plain_iff : ∀ t : Fin grid0.N,
    k0_cond4 (grid0.coords t) = 1#1 ↔ ¬(t.val / 8 = 0 ∨ t.val / 8 = 5) ∧ ¬(t.val / 8 = 3 ∨ t.val / 8 = 8) := by decide +kernel

/-- The point of the same column with row block 1: the body there is the body without the rounding. -/
def later (i : grid0.Coords) : grid0.Coords := fun a => match a with
  | ⟨0, _⟩ => i 0
  | ⟨1, _⟩ => ⟨1, show 1 < 8 by decide⟩

theorem later_not_first (i : grid0.Coords) : ¬First (later i) := by
  show ¬(Scalar.cmpi .ne (Scalar.extui (Scalar.cmpi .eq (BitVec.ofNat 32 1) 0#32)) 0#32) = 1#1
  decide

variable (arg2 : Memref sig .tc .vmem S1024x2048 .bf16) (harg2 : arg2.IsWhole)
  (arg3 : Memref sig .tc .vmem S2048x1024 .f32) (harg3 : arg3.IsWhole)
  (arg4 : Memref sig .tc .vmem S1x3x1024x128 .f32) (harg4 : arg4.IsWhole)
  (arg5 : Memref sig .tc .vmem S1024x1024 .bf16) (harg5 : arg5.IsWhole)
  (arg6 : Memref sig .tc .vmem S2048x1024 .bf16) (harg6 : arg6.IsWhole)

/-- The weights' block, rounded. -/
def rounded (x1 : Vec F S2048x1024 .f32) : FVec F S2048x1024 .bf16 :=
  shapeCast S2048x1024 (truncf .bf16 (shapeCast S2048x1024 x1 shapeCasts_S2048x1024_S2048x1024) bitsLt_bf16_f32)
    shapeCasts_S2048x1024_S2048x1024

/-- The part of the body that only the first row block of a column runs. -/
def fill (harg6 : arg6.IsWhole) : Prog (TpuEff nD τ sig (Elt F) Λ₀ .tc) PUnit := do
  let v20 : Vec F S2048x1024 .f32 ← Prog.lift (.load arg3 (Rect.unit (s := S2048x1024) ![0, 0] S2048x1024.size inb_S2048x1024_S2048x1024_0_0).toLoadRect (View.loadsAt_vmem h_S2048x1024))
  let _ : Vec F S2048x1024 .bf16 ← Prog.lift (.load arg6 (Rect.unit (s := S2048x1024) ![0, 0] S2048x1024.size inb_S2048x1024_S2048x1024_0_0).toLoadRect (View.loadsAt_vmem h_S2048x1024))
  Prog.lift (.store arg6 (Rect.unit (s := S2048x1024) ![0, 0] S2048x1024.size inb_S2048x1024_S2048x1024_0_0) (rounded v20) Finset.univ (View.stores_vmem h_S2048x1024 (harg6.storeExact_slice rfl _ packedbf16_S2048x1024_S2048x1024_0_0) (fun _ => rfl)) (.inl rfl))

/-- The body rounds the weights' block at the first row block of a column, and goes on as at a later one. -/
theorem body_eq (i : grid0.Coords) :
    cc0_in_proj (F := F) i arg2 harg2 arg3 harg3 arg4 harg4 arg5 harg5 arg6 harg6
      = dite (First i) (fun _ => fill arg3 arg6 harg6 >>= fun _ => cc0_in_proj (later i) arg2 harg2 arg3 harg3 arg4 harg4 arg5 harg5 arg6 harg6)
          (fun _ => cc0_in_proj (later i) arg2 harg2 arg3 harg3 arg4 harg4 arg5 harg5 arg6 harg6) := by
  sl_kernel_rfl

/-- A whole buffer of core `c` holding `x`. -/
abbrev Holds (c : Dev nD) {s : Shape} {e : EltTy} (arg : Memref sig .tc .vmem s e) (h : arg.IsWhole) (x : Vec F s e) : sProp 𝕄 :=
  arg.view.loc (c : Thread nD τ) ↦[arg.view.set]{fullShare} h.unread x

omit [FloatOps F] in
/-- Such a buffer is owned at `x`, and conversely. -/
theorem holds_owns {s : Shape} {e : EltTy} (arg : Memref sig .tc .vmem s e) (h : arg.IsWhole) (c : Dev nD) (x : Vec F s e) :
    Holds c arg h x ⊢ owns (c : Thread nD τ) arg fullShare x := by
  unfold owns; iintro H; iexists _; isplitr
  · ipureintro; exact h.read_unread _
  iexact H

omit [FloatOps F] in
theorem owns_holds {s : Shape} {e : EltTy} (arg : Memref sig .tc .vmem s e) (h : arg.IsWhole) (c : Dev nD) (x : Vec F s e) :
    owns (c : Thread nD τ) arg fullShare x ⊢ Holds c arg h x := by
  unfold owns; iintro ⟨%f, %hf, H⟩
  obtain rfl := h.eq_unread hf
  iexact H

/-- What it means that the body, at a point that is not the first of its column, leaves the pieces `L` in the result's
    buffer: from whole buffers holding the inputs and the rounded weights it runs to the same buffers, with `L` written
    over whatever the result's buffer held. -/
def Leaves (c : Dev nD) (i : grid0.Coords) (x0 : Vec F S1024x2048 .bf16) (x1 : Vec F S2048x1024 .f32)
    (x2 : Vec F S1x3x1024x128 .f32) (xs : Vec F S2048x1024 .bf16) (L : List (View.Piece (Elt F) S1024x1024 .bf16)) : Prop :=
  ∀ (E : Set ℕ) (K : PUnit → sProp 𝕄),
    iprop(Holds c arg2 harg2 x0 ∗ Holds c arg3 harg3 x1 ∗ Holds c arg4 harg4 x2
        ∗ (∃ f, arg5.view.loc (c : Thread nD τ) ↦[arg5.view.set]{fullShare} f) ∗ Holds c arg6 harg6 xs
        ∗ (iprop(Holds c arg2 harg2 x0 ∗ Holds c arg3 harg3 x1 ∗ Holds c arg4 harg4 x2
            ∗ (∃ f, arg5.view.loc (c : Thread nD τ) ↦[arg5.view.set]{fullShare} arg5.view.writes (Elt F) f L)
            ∗ Holds c arg6 harg6 xs) -∗ K ⟨⟩))
      ⊢ wp frame (wpE (defs₀ (F := F)) Variants.none c none) E
          (cc0_in_proj i arg2 harg2 arg3 harg3 arg4 harg4 arg5 harg5 arg6 harg6) K

set_option maxHeartbeats 1000000 in
/-- A column without positions: the run, and what it stores. -/
def plainRun (c : Dev nD) (i : grid0.Coords) (h1 : ¬First i) (h2 : ¬k0_cond2 i = 1#1) (h3 : ¬k0_cond3 i = 1#1) (h4 : k0_cond4 i = 1#1)
    (x0 : Vec F S1024x2048 .bf16) (x1 : Vec F S2048x1024 .f32) (x2 : Vec F S1x3x1024x128 .f32) (xs : Vec F S2048x1024 .bf16) :
    { L // Leaves arg2 harg2 arg3 harg3 arg4 harg4 arg5 harg5 arg6 harg6 c i x0 x1 x2 xs L } := by
  refine ⟨?_, fun E K => ?run⟩
  case run =>
    unfold cc0_in_proj
    iintro ⟨H0, H1, H2, ⟨%f, H3⟩, HS, Hk⟩
    sl_exec (disch := first | sl_exact h1 | sl_exact h2 | sl_exact h3 | sl_exact h4)
    sl_step
    iapply Hk
    isplitl [H0]; · iexact H0
    isplitl [H1]; · iexact H1
    isplitl [H2]; · iexact H2
    isplitl [H3]; · iexists _; iexact H3
    iexact HS

set_option maxHeartbeats 1000000 in
/-- A column of wide heads with positions. -/
def wideRun (c : Dev nD) (i : grid0.Coords) (h1 : ¬First i) (h2 : k0_cond2 i = 1#1) (h3 : ¬k0_cond3 i = 1#1) (h4 : ¬k0_cond4 i = 1#1)
    (x0 : Vec F S1024x2048 .bf16) (x1 : Vec F S2048x1024 .f32) (x2 : Vec F S1x3x1024x128 .f32) (xs : Vec F S2048x1024 .bf16) :
    { L // Leaves arg2 harg2 arg3 harg3 arg4 harg4 arg5 harg5 arg6 harg6 c i x0 x1 x2 xs L } := by
  refine ⟨?_, fun E K => ?run⟩
  case run =>
    unfold cc0_in_proj k0_part1 k0_part2
    iintro ⟨H0, H1, H2, ⟨%f, H3⟩, HS, Hk⟩
    sl_exec (disch := first | sl_exact h1 | sl_exact h2 | sl_exact h3 | sl_exact h4)
    sl_step
    iapply Hk
    isplitl [H0]; · iexact H0
    isplitl [H1]; · iexact H1
    isplitl [H2]; · iexact H2
    isplitl [H3]; · iexists _; iexact H3
    iexact HS

set_option maxHeartbeats 1000000 in
/-- A column of narrow heads with positions. -/
def narrowRun (c : Dev nD) (i : grid0.Coords) (h1 : ¬First i) (h2 : ¬k0_cond2 i = 1#1) (h3 : k0_cond3 i = 1#1) (h4 : ¬k0_cond4 i = 1#1)
    (x0 : Vec F S1024x2048 .bf16) (x1 : Vec F S2048x1024 .f32) (x2 : Vec F S1x3x1024x128 .f32) (xs : Vec F S2048x1024 .bf16) :
    { L // Leaves arg2 harg2 arg3 harg3 arg4 harg4 arg5 harg5 arg6 harg6 c i x0 x1 x2 xs L } := by
  refine ⟨?_, fun E K => ?run⟩
  case run =>
    unfold cc0_in_proj k0_part3 k0_part4
    iintro ⟨H0, H1, H2, ⟨%f, H3⟩, HS, Hk⟩
    sl_exec (disch := first | sl_exact h1 | sl_exact h2 | sl_exact h3 | sl_exact h4)
    sl_step
    iapply Hk
    isplitl [H0]; · iexact H0
    isplitl [H1]; · iexact H1
    isplitl [H2]; · iexact H2
    isplitl [H3]; · iexists _; iexact H3
    iexact HS

set_option maxHeartbeats 1000000 in
/-- The rounding fills the scratch buffer with the rounded block, whatever it held. -/
theorem fill_run (c : Dev nD) (x1 : Vec F S2048x1024 .f32) (E : Set ℕ) (K : PUnit → sProp 𝕄) :
    iprop(Holds c arg3 harg3 x1 ∗ (∃ f, arg6.view.loc (c : Thread nD τ) ↦[arg6.view.set]{fullShare} f)
        ∗ (iprop(Holds c arg3 harg3 x1 ∗ Holds c arg6 harg6 (rounded x1)) -∗ K ⟨⟩))
      ⊢ wp frame (wpE (defs₀ (F := F)) Variants.none c none) E (fill arg3 arg6 harg6) K := by
  unfold fill
  iintro ⟨H1, ⟨%f, HS⟩, Hk⟩
  sl_exec
  sl_step
  iapply Hk
  isplitl [H1]; · iexact H1
  iapply (owns_holds arg6 harg6 c (rounded x1))
  unfold owns; iexists _; isplitr
  swap; · iexact HS
  ipureintro
  refine (View.read_writes_full _ _ _ _ []).trans (congrArg rounded ?_)
  exact (View.readAt_eq_ld _ _ _).trans ((View.ld_unit_lit _ _ (by decide)).trans (harg3.read_unread _))

/-- A point's column is of exactly one of the three kinds. -/
def Kinds (i : grid0.Coords) : Prop :=
  (k0_cond2 i = 1#1 → ¬k0_cond3 i = 1#1 ∧ ¬k0_cond4 i = 1#1) ∧ (¬k0_cond2 i = 1#1 → k0_cond3 i = 1#1 → ¬k0_cond4 i = 1#1)
    ∧ (¬k0_cond2 i = 1#1 → ¬k0_cond3 i = 1#1 → k0_cond4 i = 1#1)

instance (i : grid0.Coords) : Decidable (Kinds i) := by unfold Kinds; infer_instance

theorem kinds : ∀ t : Fin grid0.N, Kinds (grid0.coords t) := by decide +kernel

/-- What the body stores in the result's buffer, by the column's kind. -/
def pieces (c : Dev nD) (i : grid0.Coords) (hk : Kinds i) (x0 : Vec F S1024x2048 .bf16) (x1 : Vec F S2048x1024 .f32)
    (x2 : Vec F S1x3x1024x128 .f32) (xs : Vec F S2048x1024 .bf16) :
    { L // Leaves arg2 harg2 arg3 harg3 arg4 harg4 arg5 harg5 arg6 harg6 c (later i) x0 x1 x2 xs L } :=
  if h2 : k0_cond2 i = 1#1 then
    wideRun arg2 harg2 arg3 harg3 arg4 harg4 arg5 harg5 arg6 harg6 c (later i) (later_not_first i) h2 (hk.1 h2).1 (hk.1 h2).2 x0 x1 x2 xs
  else if h3 : k0_cond3 i = 1#1 then
    narrowRun arg2 harg2 arg3 harg3 arg4 harg4 arg5 harg5 arg6 harg6 c (later i) (later_not_first i) h2 h3 (hk.2.1 h2 h3) x0 x1 x2 xs
  else plainRun arg2 harg2 arg3 harg3 arg4 harg4 arg5 harg5 arg6 harg6 c (later i) (later_not_first i) h2 h3 (hk.2.2 h2 h3) x0 x1 x2 xs

theorem plain_cover (c : Dev nD) (i : grid0.Coords) (h1 h2 h3 h4) (x0 : Vec F S1024x2048 .bf16) (x1 : Vec F S2048x1024 .f32)
    (x2 : Vec F S1x3x1024x128 .f32) (xs : Vec F S2048x1024 .bf16) (y : S1024x1024.Idx) :
    ∃ pc ∈ (plainRun arg2 harg2 arg3 harg3 arg4 harg4 arg5 harg5 arg6 harg6 c i h1 h2 h3 h4 x0 x1 x2 xs).1, y ∈ pc.1.set :=
  View.cover_of_tiledL _ S1024x1024.size (by sl_kernel_rfl) y

theorem wide_cover (c : Dev nD) (i : grid0.Coords) (h1 h2 h3 h4) (x0 : Vec F S1024x2048 .bf16) (x1 : Vec F S2048x1024 .f32)
    (x2 : Vec F S1x3x1024x128 .f32) (xs : Vec F S2048x1024 .bf16) (y : S1024x1024.Idx) :
    ∃ pc ∈ (wideRun arg2 harg2 arg3 harg3 arg4 harg4 arg5 harg5 arg6 harg6 c i h1 h2 h3 h4 x0 x1 x2 xs).1, y ∈ pc.1.set :=
  View.cover_of_tiledL _ (![1024, 128] : Fin 2 → ℕ) (by sl_kernel_rfl) y

theorem narrow_cover (c : Dev nD) (i : grid0.Coords) (h1 h2 h3 h4) (x0 : Vec F S1024x2048 .bf16) (x1 : Vec F S2048x1024 .f32)
    (x2 : Vec F S1x3x1024x128 .f32) (xs : Vec F S2048x1024 .bf16) (y : S1024x1024.Idx) :
    ∃ pc ∈ (narrowRun arg2 harg2 arg3 harg3 arg4 harg4 arg5 harg5 arg6 harg6 c i h1 h2 h3 h4 x0 x1 x2 xs).1, y ∈ pc.1.set :=
  View.cover_of_tiledL _ (![1024, 128] : Fin 2 → ℕ) (by sl_kernel_rfl) y

/-- The pieces cover the result's block. -/
theorem pieces_cover (c : Dev nD) (i : grid0.Coords) (hk : Kinds i) (x0 : Vec F S1024x2048 .bf16) (x1 : Vec F S2048x1024 .f32)
    (x2 : Vec F S1x3x1024x128 .f32) (xs : Vec F S2048x1024 .bf16) (y : S1024x1024.Idx) :
    ∃ pc ∈ (pieces arg2 harg2 arg3 harg3 arg4 harg4 arg5 harg5 arg6 harg6 c i hk x0 x1 x2 xs).1, y ∈ pc.1.set := by
  unfold pieces
  split
  · exact wide_cover ..
  · split
    · exact narrow_cover ..
    · exact plain_cover ..

/-- The scratch buffer as the body at a point finds it: at anything at the first row block of a column, else at the
    column's weights, rounded. -/
def Found (c : Dev nD) (i : grid0.Coords) (x1 : Vec F S2048x1024 .f32) : sProp 𝕄 :=
  if First i then iprop(∃ f, arg6.view.loc (c : Thread nD τ) ↦[arg6.view.set]{fullShare} f) else Holds c arg6 harg6 (rounded x1)

/-- The body at any point. -/
theorem body_run (c : Dev nD) (i : grid0.Coords) (hk : Kinds i) (x0 : Vec F S1024x2048 .bf16) (x1 : Vec F S2048x1024 .f32)
    (x2 : Vec F S1x3x1024x128 .f32) (E : Set ℕ) (K : PUnit → sProp 𝕄) :
    iprop(Holds c arg2 harg2 x0 ∗ Holds c arg3 harg3 x1 ∗ Holds c arg4 harg4 x2
        ∗ (∃ f, arg5.view.loc (c : Thread nD τ) ↦[arg5.view.set]{fullShare} f) ∗ Found arg6 harg6 c i x1
        ∗ (iprop(Holds c arg2 harg2 x0 ∗ Holds c arg3 harg3 x1 ∗ Holds c arg4 harg4 x2
            ∗ (∃ f, arg5.view.loc (c : Thread nD τ) ↦[arg5.view.set]{fullShare}
                arg5.view.writes (Elt F) f (pieces arg2 harg2 arg3 harg3 arg4 harg4 arg5 harg5 arg6 harg6 c i hk x0 x1 x2 (rounded x1)).1)
            ∗ Holds c arg6 harg6 (rounded x1)) -∗ K ⟨⟩))
      ⊢ wp frame (wpE (defs₀ (F := F)) Variants.none c none) E (cc0_in_proj i arg2 harg2 arg3 harg3 arg4 harg4 arg5 harg5 arg6 harg6) K := by
  rw [body_eq]; unfold Found
  by_cases h : First i
  · rw [dif_pos h, if_pos h, wp_bind]
    iintro ⟨H0, H1, H2, H3, HS, Hk⟩
    iapply (fill_run arg3 harg3 arg6 harg6 c x1 E _)
    isplitl [H1]; · iexact H1
    isplitl [HS]; · iexact HS
    iintro ⟨H1, HS⟩
    iapply ((pieces arg2 harg2 arg3 harg3 arg4 harg4 arg5 harg5 arg6 harg6 c i hk x0 x1 x2 (rounded x1)).2 E K)
    isplitl [H0]; · iexact H0
    isplitl [H1]; · iexact H1
    isplitl [H2]; · iexact H2
    isplitl [H3]; · iexact H3
    isplitl [HS]; · iexact HS
    iexact Hk
  · rw [dif_neg h, if_neg h]
    exact (pieces arg2 harg2 arg3 harg3 arg4 harg4 arg5 harg5 arg6 harg6 c i hk x0 x1 x2 (rounded x1)).2 E K

/-! ## The blocks and the scratch point by point -/

variable (m : (ℓ : Loc nD τ sig) → Buf (Elt F) ℓ) (ρ : Dev nD → PrngReg)

/-- The buffers a point's body is called with. -/
abbrev ms0 (t : Fin cfg0.N) : Memref sig .tc .vmem S1024x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x3x1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
abbrev scM : Memref sig .tc .vmem S2048x1024 .bf16 := Memref.whole cc0_scratch0

/-- What point `t` stores, as pieces and as a block. -/
abbrev piecesAt (c : Dev nD) (t : Fin cfg0.N) :=
  pieces (ms0 t) (hs0 t) (ms1 t) (hs1 t) (ms2 t) (hs2 t) (ms3 t) (hs3 t) scM (Memref.isWhole_whole _) c (grid0.coords t) (kinds t) (iblk m c 0 t) (iblk m c 1 t) (iblk m c 2 t) (rounded (iblk m c 1 t))

def out (c : Dev nD) (t : Fin cfg0.N) : Vec F S1024x1024 .bf16 := View.canon (piecesAt m c t).1

/-- The blocks that point `t` reads and writes, by number. -/
theorem index_val (t : Fin grid0.N) :
    (win0_0.index t = ![t.val % 8, 0]) ∧ win0_1.index t = ![0, t.val / 8] ∧ win0_3.index t = ![t.val % 8, t.val / 8] :=
  (by decide +kernel : ∀ t : Fin grid0.N,
    (win0_0.index t = ![t.val % 8, 0]) ∧ win0_1.index t = ![0, t.val / 8] ∧ win0_3.index t = ![t.val % 8, t.val / 8]) t

/-- The block of weights stays the same down a column. -/
theorem weights_same (c : Dev nD) (n : ℕ) (h : n + 1 < cfg0.N) (h8 : ¬(n + 1) % 8 = 0) :
    rounded (iblk m c 1 ⟨n, by omega⟩) = rounded (iblk m c 1 ⟨n + 1, h⟩) := by
  have hn : n < cfg0.N := by omega
  have e : n / 8 = (n + 1) / 8 := by omega
  unfold iblk
  generalize V m c (Pipeline.arrRef spec0 1) = A
  refine congrArg rounded (funext fun y => ?_)
  blk_ext [index_val ⟨n, hn⟩, index_val ⟨n + 1, h⟩, e]

/-- The invariant before position `n`: the scratch holds the column's weights, rounded. -/
def Inv (c : Dev nD) : (n : ℕ) → n ≤ cfg0.N → sProp 𝕄
  | 0, _ => Pipeline.ΦA spec0 c
  | n + 1, hn => iprop(owns (c : Thread nD τ) scM fullShare (rounded (iblk m c 1 ⟨n, hn⟩)) ∗ (∃ r, prngReg c r))

theorem anything_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

omit [FloatOps F] in
theorem owns_any {s : Shape} {e : EltTy} (arg : Memref sig .tc .vmem s e) (c : Dev nD) (x : Vec F s e) :
    owns (c : Thread nD τ) arg fullShare x ⊢ (iprop(∃ f, arg.view.loc (c : Thread nD τ) ↦[arg.view.set]{fullShare} f) : sProp 𝕄) := by
  unfold owns; iintro ⟨%f, -, H⟩
  iexists _; iexact H

/-- The invariant gives the body its scratch. -/
theorem inv_found (c : Dev nD) (t : Fin cfg0.N) :
    Inv m c t.val (Nat.le_of_lt t.isLt)
      ⊢ iprop(Found scM (Memref.isWhole_whole _) c (grid0.coords t) (iblk m c 1 t) ∗ (∃ r, prngReg c r)) := by
  obtain ⟨n, hn⟩ := t
  unfold Found
  cases n with
  | zero =>
    rw [if_pos ((first_iff ⟨0, hn⟩).mpr rfl), show Inv m c 0 _ = Pipeline.ΦA spec0 c from rfl, anything_eq]
    iintro ⟨⟨%d, HS⟩, Hg⟩
    isplitl [HS]; · iapply (owns_any scM c d); iexact HS
    iexact Hg
  | succ n =>
    rw [show Inv m c (n + 1) _ = iprop(owns (c : Thread nD τ) scM fullShare (rounded (iblk m c 1 ⟨n, by omega⟩)) ∗ (∃ r, prngReg c r)) from rfl]
    by_cases h : (n + 1) % 8 = 0
    · rw [if_pos ((first_iff ⟨n + 1, hn⟩).mpr h)]
      iintro ⟨HS, Hg⟩
      isplitl [HS]; · iapply (owns_any scM c _); iexact HS
      iexact Hg
    · rw [if_neg (fun h' => h ((first_iff ⟨n + 1, hn⟩).mp h')), weights_same m c n hn h]
      iintro ⟨HS, Hg⟩
      isplitl [HS]; · iapply (owns_holds scM (Memref.isWhole_whole _) c _); iexact HS
      iexact Hg

/-- The proof data of the launch: every input's buffer at its block, the result's at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out m c t
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_at (c : Dev nD) (t : Fin cfg0.N) : (dats m 0 c).Φ t.castSucc = Inv m c t.val (Nat.le_of_lt t.isLt) := by
  dsimp only [dats]; exact Pipeline.Dat.Φ_castSucc (Inv m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- What the body finds at point `t`, the windows one by one, -/
def Pre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it leaves. -/
def Post (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

/-- The result's buffer, its block covered by the pieces, is owned at the block they make. -/
theorem stored_owns (c : Dev nD) (t : Fin cfg0.N) :
    (iprop(∃ f, (ms3 t).view.loc (c : Thread nD τ) ↦[(ms3 t).view.set]{fullShare} (ms3 t).view.writes (Elt F) f (piecesAt m c t).1) : sProp 𝕄)
      ⊢ owns (c : Thread nD τ) (ms3 t) fullShare (out m c t) := by
  unfold owns; iintro ⟨%f, H⟩
  iexists _; isplitr
  swap; · iexact H
  ipureintro
  exact View.read_writes_eq_canon _ _ _ (pieces_cover _ _ _ _ _ _ _ _ _ _ c _ _ _ _ _ _)

/-- The body at point `t`. -/
theorem sound (c : Dev nD) (t : Fin cfg0.N) :
    Pre m c t ⊢ wp frame (wpE (defs₀ (F := F)) Variants.none c none) Set.univ (bodyAt0 t) (fun _ => Post m c t) := by
  unfold Pre Post bodyAt0
  simp only [before0, before1, before2]
  rw [show (dats m 0 c).owesAt () t.succ = (dats m 0 c).owesAt () t.castSucc from rfl, after0, after1, after2, after3,
    show (dats m 0 c).Φ t.succ = iprop(owns (c : Thread nD τ) scM fullShare (rounded (iblk m c 1 t)) ∗ (∃ r, prngReg c r)) from rfl, inv_at]
  refine (sep_mono_left (inv_found m c t)).trans ?_
  iintro ⟨⟨HS, Hg⟩, Ho, ⟨%d0, H0⟩, ⟨%d1, H1⟩, ⟨%d2, H2⟩, ⟨%d3, H3⟩⟩
  iapply (body_run (ms0 t) (hs0 t) (ms1 t) (hs1 t) (ms2 t) (hs2 t) (ms3 t) (hs3 t) scM (Memref.isWhole_whole _) c (grid0.coords t)
    (kinds t) (iblk m c 0 t) (iblk m c 1 t) (iblk m c 2 t) Set.univ _)
  isplitl [H0]; · iapply (owns_holds (ms0 t) (hs0 t) c _); iexact H0
  isplitl [H1]; · iapply (owns_holds (ms1 t) (hs1 t) c _); iexact H1
  isplitl [H2]; · iapply (owns_holds (ms2 t) (hs2 t) c _); iexact H2
  isplitl [H3]; · iapply (owns_any (ms3 t) c _); iexact H3
  isplitl [HS]; · iexact HS
  iintro ⟨H0, H1, H2, H3, HS⟩
  isplitl [HS Hg]
  · isplitl [HS]
    · iapply (holds_owns scM (Memref.isWhole_whole _) c _); iexact HS
    iexact Hg
  isplitl [Ho]; · iexact Ho
  isplitl [H0]; · iapply (holds_owns (ms0 t) (hs0 t) c _); iexact H0
  isplitl [H1]; · iapply (holds_owns (ms1 t) (hs1 t) c _); iexact H1
  isplitl [H2]; · iapply (holds_owns (ms2 t) (hs2 t) c _); iexact H2
  iapply (stored_owns m c t); iexact H3

/-- The body table's row at a point is the body. -/
theorem row (t : Fin cfg0.N) : defs₀ (F := F) .tc cfg0.body (cfg0.bodyArgs t (cfg0.slots t)) = bodyAt0 t := by
  unfold defs₀; rw [Defs.onTc_tc]

/-- Every point stores its block of the result. -/
theorem live : ∀ t : Fin grid0.N, idle0 3 (grid0.coords t) = false := by decide +kernel

theorem body_obligation (c : Dev nD) : BodyObligation (dats (F := F) m 0 c) (defs₀ (F := F)) Variants.none () Set.univ := fun t => by
  rw [bigSep_W0, bigSep_W0, row]
  exact triple_restated (sound m c t) rfl .rfl fun _ => by
    rw [show cfg0.idle 3 (cfg0.grid.coords t) = false from live t]; exact .rfl

theorem hin (c : Dev nD) : Pipeline.ΦA spec0 c ⊢ (dats m 0 c).Φ 0 := .rfl

/-- After the last point the scratch's contents are forgotten. -/
theorem hout (c : Dev nD) : (dats m 0 c).Φ (Fin.last cfg0.N) ⊢ Pipeline.ΦA spec0 c := by
  show (iprop(owns (c : Thread nD τ) scM fullShare (rounded (iblk m c 1 ⟨103, by decide⟩)) ∗ (∃ r, prngReg c r)) : sProp 𝕄) ⊢ _
  rw [anything_eq]
  iintro ⟨HS, Hg⟩
  isplitl [HS]; · iexists _; iexact HS
  iexact Hg

set_option backward.isDefEq.respectTransparency.types false in
/-- The launch: every fair run ends, with the arrays at what the proof data says and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every fair run ends with the arguments unchanged and every semaphore counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.InProjIdeal.Call

end
-- ==== Proof.InProjSame.lean ====
/-
The frame of the input projection as compiled.  Its program and the one read at exact arithmetic are the same program
under two names, and the frame of the second is proved for any arithmetic: so the frame of the first is an instance.
-/
module

public import proofs.«01_k».proof.Proof.Gen.InProj.Frame
public import proofs.«01_k».proof.Proof.InProjFrame

@[expose] public section

open Idealize.ShloMosaic Idealize.ShloMosaic.TcCoe Idealize.ShloMosaic.Tactic
open Idealize.SL Idealize.SL.Sem

namespace Cert.InProj.Call

variable {F : FTy → Type} [FloatOps F]

/-- The frame of the program read at exact arithmetic, at any arithmetic. -/
def IdealFrame (F : FTy → Type) [FloatOps F] : Prop :=
  ∀ (m : (ℓ : Loc Cert.InProjIdeal.nD Cert.InProjIdeal.τ Cert.InProjIdeal.sig) → Buf (Elt F) ℓ) (ρ : Dev Cert.InProjIdeal.nD → PrngReg),
    θ_run Cert.InProjIdeal.defs (onTc (τ := Cert.InProjIdeal.τ) (Cert.InProjIdeal.main (F := F))) ⟨m, fun _ => 0, ρ⟩
      (fun r => (∀ c : Dev Cert.InProjIdeal.nD,
        r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
        ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
        ∧ r.2.sem = fun _ => 0)

/-- The frame of the compiled program, at any arithmetic. -/
def CompiledFrame (F : FTy → Type) [FloatOps F] : Prop :=
  ∀ (m : (ℓ : Loc Cert.InProj.nD Cert.InProj.τ Cert.InProj.sig) → Buf (Elt F) ℓ) (ρ : Dev Cert.InProj.nD → PrngReg),
    θ_run Cert.InProj.defs (onTc (τ := Cert.InProj.τ) (Cert.InProj.main (F := F))) ⟨m, fun _ => 0, ρ⟩
      (fun r => (∀ c : Dev Cert.InProj.nD,
        r.2.mem ((c.tc : Thread Cert.InProj.nD Cert.InProj.τ).loc Cert.InProj.main_arg0) = m ((c.tc : Thread Cert.InProj.nD Cert.InProj.τ).loc Cert.InProj.main_arg0)
        ∧ r.2.mem ((c.tc : Thread Cert.InProj.nD Cert.InProj.τ).loc Cert.InProj.main_arg1) = m ((c.tc : Thread Cert.InProj.nD Cert.InProj.τ).loc Cert.InProj.main_arg1))
        ∧ r.2.sem = fun _ => 0)

/-- The two statements are one. -/
theorem same : CompiledFrame F = IdealFrame F := by sl_kernel_rfl

/-- Every fair run of the compiled program ends with the arguments unchanged and every semaphore counter at zero. -/
theorem frame_holds : CompiledFrame F := same.mpr fun m ρ => Cert.InProjIdeal.Call.frame_holds m ρ

end Cert.InProj.Call

end
-- ==== Proof.InProjTile.lean ====
/-
What the input projection's body stores at a point, entry by entry: the product of the two blocks in a column without
positions, and the turned product in a column of heads with positions.
-/
module

public import proofs.«01_k».proof.Proof.InProjFrame
public import Idealize.ShloMosaic.Lib.Pointwise
public import Idealize.ShloMosaic.Lib.WholeRead

@[expose] public section

set_option maxRecDepth 16384

noncomputable section

namespace Cert.InProjIdeal.Call

open Idealize.ShloMosaic Idealize.ShloMosaic.TcCoe Idealize.ShloMosaic.Tactic Idealize.SL.Sem
open Cert.InProjIdeal Cert.InProjIdeal.Gen

/-- Entry `(r, q)` of the product of a block of activations with a block of weights. -/
def dotAt (x0 : FVec Ideal S1024x2048 .bf16) (xs : FVec Ideal S2048x1024 .bf16) (r q : Fin 1024) : EReal :=
  ∑ k : Fin 2048, x0 (ix2 r k) * xs (ix2 k q)

/-- The product of the two blocks. -/
def acc (x0 : FVec Ideal S1024x2048 .bf16) (xs : FVec Ideal S2048x1024 .bf16) : FVec Ideal S1024x1024 .f32 :=
  matmul dot_S1024x2048_S2048x1024_S1024x1024_1_0_0_1_n_n none x0 xs (constant S1024x1024 .f32 0x00000000#32)

theorem acc_at (x0 : FVec Ideal S1024x2048 .bf16) (xs : FVec Ideal S2048x1024 .bf16) (r q : Fin 1024) :
    acc x0 xs (ix2 r q) = dotAt x0 xs r q := by
  pointwise [acc, dotAt]

/-- A strip of 128 columns from column `o`, turned with the factors `t0`, `t1`, `t2`: the strip, the strip shifted by `a`
    lanes and the strip shifted by `b` lanes. -/
def strip (a b : BitVec 32) (o : ℕ) (ho : S1024x1024.Slices ![0, o] S1024x128) (v : FVec Ideal S1024x1024 .f32)
    (t0 t1 t2 : FVec Ideal S1024x128 .f32) : FVec Ideal S1024x128 .bf16 :=
  truncf .bf16
    (addf
      (addf (mulf (extractStridedSlice S1024x128 ![0, o] v ho) t0)
        (mulf (dynamicRotate 1 a none (extractStridedSlice S1024x128 ![0, o] v ho) rotates_S1024x128_d1) t1))
      (mulf (dynamicRotate 1 b none (extractStridedSlice S1024x128 ![0, o] v ho) rotates_S1024x128_d1) t2))
    bitsLt_bf16_f32

theorem wide_strip (o : ℕ) (ho : S1024x1024.Slices ![0, o] S1024x128) (v : FVec Ideal S1024x1024 .f32)
    (t0 t1 t2 : FVec Ideal S1024x128 .f32) (r : Fin 1024) (l : Fin 128) (hl : o + 128 ≤ 1024) :
    strip 96#32 32#32 o ho v t0 t1 t2 (ix2 r l)
      = v (ix2 r ⟨o + l.val, by omega⟩) * t0 (ix2 r l)
        + v (ix2 r ⟨o + (l.val + 32) % 128, by omega⟩) * t1 (ix2 r l)
        + v (ix2 r ⟨o + (l.val + 96) % 128, by omega⟩) * t2 (ix2 r l) := by
  pointwise [strip]
  have e1 : (l.val + 128 - 96) % 128 = (l.val + 32) % 128 := by omega
  have e2 : (l.val + 128 - 32) % 128 = (l.val + 96) % 128 := by omega
  simp only [e1, e2]

theorem narrow_strip (o : ℕ) (ho : S1024x1024.Slices ![0, o] S1024x128) (v : FVec Ideal S1024x1024 .f32)
    (t0 t1 t2 : FVec Ideal S1024x128 .f32) (r : Fin 1024) (l : Fin 128) (hl : o + 128 ≤ 1024) :
    strip 112#32 16#32 o ho v t0 t1 t2 (ix2 r l)
      = v (ix2 r ⟨o + l.val, by omega⟩) * t0 (ix2 r l)
        + v (ix2 r ⟨o + (l.val + 16) % 128, by omega⟩) * t1 (ix2 r l)
        + v (ix2 r ⟨o + (l.val + 112) % 128, by omega⟩) * t2 (ix2 r l) := by
  pointwise [strip]
  have e1 : (l.val + 128 - 112) % 128 = (l.val + 16) % 128 := by omega
  have e2 : (l.val + 128 - 16) % 128 = (l.val + 112) % 128 := by omega
  simp only [e1, e2]

/-- The turned product at `(r, q)`: the entry, the entry `u` lanes above and the entry `d` lanes above (both around the
    strip of 128 columns), with the three factors of `q`'s lane. -/
def turnedAt (u d : ℕ) (x0 : FVec Ideal S1024x2048 .bf16) (x2 : FVec Ideal S1x3x1024x128 .f32)
    (xs : FVec Ideal S2048x1024 .bf16) (r q : Fin 1024) : EReal :=
  dotAt x0 xs r q * x2 (ix4 0 0 r ⟨q.val % 128, by omega⟩)
    + dotAt x0 xs r ⟨q.val / 128 * 128 + (q.val % 128 + u) % 128, by omega⟩ * x2 (ix4 0 1 r ⟨q.val % 128, by omega⟩)
    + dotAt x0 xs r ⟨q.val / 128 * 128 + (q.val % 128 + d) % 128, by omega⟩ * x2 (ix4 0 2 r ⟨q.val % 128, by omega⟩)

/-- A load of a whole buffer reads what the buffer holds. -/
theorem whole_load {s : Shape} {e : EltTy} (M : Memref sig .tc .vmem s e) (h : M.IsWhole) {off : Fin s.rank → ℕ}
    (inb : ∀ a, off a + s.size a ≤ s.size a) (h0 : ∀ a, off a = 0) (X : Vec Ideal s e) :
    View.readAt (Elt Ideal) M.view (Rect.unit off s.size inb).toLoadRect (h.unread X) = X := by
  refine (View.readAt_eq_ld M.view (h.unread X) (Rect.unit off s.size inb)).trans ?_
  rw [h.read_unread]
  exact View.ld_unit_lit inb X h0

variable (arg2 : Memref sig .tc .vmem S1024x2048 .bf16) (harg2 : arg2.IsWhole)
  (arg3 : Memref sig .tc .vmem S2048x1024 .f32) (harg3 : arg3.IsWhole)
  (arg4 : Memref sig .tc .vmem S1x3x1024x128 .f32) (harg4 : arg4.IsWhole)
  (arg5 : Memref sig .tc .vmem S1024x1024 .bf16) (harg5 : arg5.IsWhole)
  (arg6 : Memref sig .tc .vmem S2048x1024 .bf16) (harg6 : arg6.IsWhole)

/-- A layer without its two axes of one. -/
theorem layer_at (B : FVec Ideal S1x1x1024x128 .f32) (hc : S1x1x1024x128.ShapeCasts S1024x128) (r : Fin 1024) (l : Fin 128) :
    shapeCast S1024x128 B hc (ix2 r l) = B (ix4 0 0 r l) := by
  pointwise []

/-- A load of one of the three layers of a factors block. -/
theorem layer_load (k : Fin 3) (inb : ∀ a, (![0, k.val, 0, 0] : Fin 4 → ℕ) a + S1x1x1024x128.size a ≤ S1x3x1024x128.size a)
    (hc : S1x1x1024x128.ShapeCasts S1024x128) (x2 : Vec Ideal S1x3x1024x128 .f32) (r : Fin 1024) (l : Fin 128) :
    shapeCast S1024x128 (View.readAt (Elt Ideal) arg4.view
      (Rect.unit (s := S1x3x1024x128) ![0, k.val, 0, 0] S1x1x1024x128.size inb).toLoadRect (harg4.unread x2)) hc (ix2 r l)
      = x2 (ix4 0 k r l) := by
  refine (layer_at _ hc r l).trans ((harg4.readAt_unread x2 _ _).trans (congrArg x2 (funext fun a => Fin.ext ?_)))
  refine (Rect.idx_unit_val _ _ _ _ _).trans ?_
  fin_cases a
  · rfl
  · exact Nat.add_zero _
  · exact Nat.zero_add _
  · exact Nat.zero_add _

theorem wide_acc (x0 : Vec Ideal S1024x2048 .bf16) (xs : Vec Ideal S2048x1024 .bf16) :
    wideRun.sl.v5 arg2 harg2 arg6 harg6 x0 xs = acc x0 xs := by
  unfold wideRun.sl.v5
  rw [whole_load arg2 harg2 _ (by decide), whole_load arg6 harg6 _ (by decide)]
  rfl

theorem narrow_acc (x0 : Vec Ideal S1024x2048 .bf16) (xs : Vec Ideal S2048x1024 .bf16) :
    narrowRun.sl.v5 arg2 harg2 arg6 harg6 x0 xs = acc x0 xs := by
  unfold narrowRun.sl.v5
  rw [whole_load arg2 harg2 _ (by decide), whole_load arg6 harg6 _ (by decide)]
  rfl

/-- The turned product, with the column given as a strip and a lane of it. -/
theorem turnedAt_of_strip {o : ℕ} (u d : ℕ) (x0 : FVec Ideal S1024x2048 .bf16) (x2 : FVec Ideal S1x3x1024x128 .f32)
    (xs : FVec Ideal S2048x1024 .bf16) (r q : Fin 1024) (l : Fin 128) (h1 : q.val = o + l.val) (hl : o + 128 ≤ 1024)
    (hd : o % 128 = 0) :
    acc x0 xs (ix2 r ⟨o + l.val, by omega⟩) * x2 (ix4 0 0 r l)
        + acc x0 xs (ix2 r ⟨o + (l.val + u) % 128, by omega⟩) * x2 (ix4 0 1 r l)
        + acc x0 xs (ix2 r ⟨o + (l.val + d) % 128, by omega⟩) * x2 (ix4 0 2 r l)
      = turnedAt u d x0 x2 xs r q := by
  rw [acc_at, acc_at, acc_at]
  unfold turnedAt
  have f0 : q.val % 128 = l.val := by omega
  have f1 : q.val / 128 * 128 = o := by omega
  simp only [f0, f1, ← h1]

/-- One stored strip of a column of wide heads. -/
theorem wide_piece {o : ℕ} {P : FVec Ideal S1024x128 .bf16} (x0 : Vec Ideal S1024x2048 .bf16)
    (x2 : Vec Ideal S1x3x1024x128 .f32) (xs : Vec Ideal S2048x1024 .bf16)
    {x : S1024x128.Idx} {r q : Fin 1024} (h0 : r.val = (x 0).val) (h1 : q.val = o + (x 1).val)
    (hl : o + 128 ≤ 1024) (hd : o % 128 = 0) {ho : S1024x1024.Slices ![0, o] S1024x128}
    (hP : P = strip 96#32 32#32 o ho (wideRun.sl.v5 arg2 harg2 arg6 harg6 x0 xs) (wideRun.sl.v21 arg4 harg4 x2)
      (wideRun.sl.v23 arg4 harg4 x2) (wideRun.sl.v25 arg4 harg4 x2)) :
    P x = turnedAt 32 96 x0 x2 xs r q := by
  obtain ⟨r', l, rfl⟩ : ∃ (r' : Fin 1024) (l : Fin 128), x = ix2 r' l := ⟨x 0, x 1, by idx_ext⟩
  obtain rfl : r = r' := Fin.ext h0
  have e0 : wideRun.sl.v21 arg4 harg4 x2 (ix2 r l) = x2 (ix4 0 0 r l) := layer_load arg4 harg4 0 _ _ x2 r l
  have e1 : wideRun.sl.v23 arg4 harg4 x2 (ix2 r l) = x2 (ix4 0 1 r l) := layer_load arg4 harg4 1 _ _ x2 r l
  have e2 : wideRun.sl.v25 arg4 harg4 x2 (ix2 r l) = x2 (ix4 0 2 r l) := layer_load arg4 harg4 2 _ _ x2 r l
  rw [hP, wide_strip o ho _ _ _ _ r l hl, wide_acc, e0, e1, e2]
  exact turnedAt_of_strip _ _ x0 x2 xs r q l h1 hl hd

/-- One stored strip of a column of narrow heads. -/
theorem narrow_piece {o : ℕ} {P : FVec Ideal S1024x128 .bf16} (x0 : Vec Ideal S1024x2048 .bf16)
    (x2 : Vec Ideal S1x3x1024x128 .f32) (xs : Vec Ideal S2048x1024 .bf16)
    {x : S1024x128.Idx} {r q : Fin 1024} (h0 : r.val = (x 0).val) (h1 : q.val = o + (x 1).val)
    (hl : o + 128 ≤ 1024) (hd : o % 128 = 0) {ho : S1024x1024.Slices ![0, o] S1024x128}
    (hP : P = strip 112#32 16#32 o ho (narrowRun.sl.v5 arg2 harg2 arg6 harg6 x0 xs) (narrowRun.sl.v21 arg4 harg4 x2)
      (narrowRun.sl.v23 arg4 harg4 x2) (narrowRun.sl.v25 arg4 harg4 x2)) :
    P x = turnedAt 16 112 x0 x2 xs r q := by
  obtain ⟨r', l, rfl⟩ : ∃ (r' : Fin 1024) (l : Fin 128), x = ix2 r' l := ⟨x 0, x 1, by idx_ext⟩
  obtain rfl : r = r' := Fin.ext h0
  have e0 : narrowRun.sl.v21 arg4 harg4 x2 (ix2 r l) = x2 (ix4 0 0 r l) := layer_load arg4 harg4 0 _ _ x2 r l
  have e1 : narrowRun.sl.v23 arg4 harg4 x2 (ix2 r l) = x2 (ix4 0 1 r l) := layer_load arg4 harg4 1 _ _ x2 r l
  have e2 : narrowRun.sl.v25 arg4 harg4 x2 (ix2 r l) = x2 (ix4 0 2 r l) := layer_load arg4 harg4 2 _ _ x2 r l
  rw [hP, narrow_strip o ho _ _ _ _ r l hl, narrow_acc, e0, e1, e2]
  exact turnedAt_of_strip _ _ x0 x2 xs r q l h1 hl hd

/-- What a column of wide heads stores. -/
theorem wide_value (c : Dev nD) (i : grid0.Coords) (h1 h2 h3 h4) (x0 : Vec Ideal S1024x2048 .bf16)
    (x1 : Vec Ideal S2048x1024 .f32) (x2 : Vec Ideal S1x3x1024x128 .f32) (xs : Vec Ideal S2048x1024 .bf16)
    (y : S1024x1024.Idx) :
    View.canon (wideRun arg2 harg2 arg3 harg3 arg4 harg4 arg5 harg5 arg6 harg6 c i h1 h2 h3 h4 x0 x1 x2 xs).1 y
      = turnedAt 32 96 x0 x2 xs (y 0) (y 1) := by
  have hcov := wide_cover arg2 harg2 arg3 harg3 arg4 harg4 arg5 harg5 arg6 harg6 c i h1 h2 h3 h4 x0 x1 x2 xs y
  unfold wideRun at hcov ⊢
  dsimp only at hcov ⊢
  canon_tiles x h using hcov
  all_goals first
    | exact wide_piece arg2 harg2 arg4 harg4 arg6 harg6 x0 x2 xs h0 h1 (by decide) (by decide) rfl
    | exact wide_piece arg2 harg2 arg4 harg4 arg6 harg6 x0 x2 xs h0 (h1.trans (Nat.zero_add _).symm) (by decide) (by decide) rfl

/-- What a column of narrow heads stores. -/
theorem narrow_value (c : Dev nD) (i : grid0.Coords) (h1 h2 h3 h4) (x0 : Vec Ideal S1024x2048 .bf16)
    (x1 : Vec Ideal S2048x1024 .f32) (x2 : Vec Ideal S1x3x1024x128 .f32) (xs : Vec Ideal S2048x1024 .bf16)
    (y : S1024x1024.Idx) :
    View.canon (narrowRun arg2 harg2 arg3 harg3 arg4 harg4 arg5 harg5 arg6 harg6 c i h1 h2 h3 h4 x0 x1 x2 xs).1 y
      = turnedAt 16 112 x0 x2 xs (y 0) (y 1) := by
  have hcov := narrow_cover arg2 harg2 arg3 harg3 arg4 harg4 arg5 harg5 arg6 harg6 c i h1 h2 h3 h4 x0 x1 x2 xs y
  unfold narrowRun at hcov ⊢
  dsimp only at hcov ⊢
  canon_tiles x h using hcov
  all_goals first
    | exact narrow_piece arg2 harg2 arg4 harg4 arg6 harg6 x0 x2 xs h0 h1 (by decide) (by decide) rfl
    | exact narrow_piece arg2 harg2 arg4 harg4 arg6 harg6 x0 x2 xs h0 (h1.trans (Nat.zero_add _).symm) (by decide) (by decide) rfl

/-- What a column without positions stores. -/
theorem plain_value (c : Dev nD) (i : grid0.Coords) (h1 h2 h3 h4) (x0 : Vec Ideal S1024x2048 .bf16)
    (x1 : Vec Ideal S2048x1024 .f32) (x2 : Vec Ideal S1x3x1024x128 .f32) (xs : Vec Ideal S2048x1024 .bf16)
    (y : S1024x1024.Idx) :
    View.canon (plainRun arg2 harg2 arg3 harg3 arg4 harg4 arg5 harg5 arg6 harg6 c i h1 h2 h3 h4 x0 x1 x2 xs).1 y
      = dotAt x0 xs (y 0) (y 1) := by
  unfold plainRun
  dsimp only
  rw [View.canon_cons_unit_lit _ _ _ (by decide)]
  unfold plainRun.sl.v20 plainRun.sl.v5
  rw [whole_load arg2 harg2 _ (by decide), whole_load arg6 harg6 _ (by decide)]
  idx_vars y
  exact acc_at x0 xs _ _

end Cert.InProjIdeal.Call
-- ==== Proof.InProjMath.lean ====
/-
The rotation of heads by position, as a function of one row of products.  A head's lanes are split in two halves, the
first turned by the position's row on the 64 × 64 grid and the second by its column; inside a half, lane `k` of the
first quarter and lane `k` of the second are the two coordinates that are turned together.
-/
module

public import Idealize.ShloMosaic.Lib.Pointwise
public import Idealize.ShloMosaic.Lib.Claim

@[expose] public section

noncomputable section

namespace InProj

open Idealize.ShloMosaic

/-- An index as a number. -/
def num (k : ℕ) : EReal := FloatOps.sitofp (F := Ideal) .f32 (BitVec.ofNat 32 k)

/-- The frequency of lane `k` of a quarter; `qf` is the bit pattern of the quarter's size. -/
def freq (qf : BitVec 32) (k : ℕ) : EReal :=
  Ideal.pow (Ideal.ofBits .f32 0x461C4000#32) (Ideal.div (-num k) (Ideal.ofBits .f32 qf))

/-- The angle at position `n`, half `a` and lane `k` of a quarter. -/
def ang (qf : BitVec 32) (n a k : ℕ) : EReal :=
  (if a < 1 then num (n / 64) else num (n % 64)) * freq qf k

/-- Row `x` turned at column `l`, in heads of quarters of `q` lanes, at position `n`. -/
def turned (q : ℕ) (qf : BitVec 32) (x : ℕ → EReal) (n l : ℕ) : EReal :=
  if l % (2 * q) < q then
    x l * Ideal.cos (ang qf n (l / (2 * q) % 2) (l % q)) - x (l + q) * Ideal.sin (ang qf n (l / (2 * q) % 2) (l % q))
  else
    x (l - q) * Ideal.sin (ang qf n (l / (2 * q) % 2) (l % q)) + x l * Ideal.cos (ang qf n (l / (2 * q) % 2) (l % q))

/-- Entry `l` of the projected row `x` at position `n`: the keys and queries of the two attentions are turned, and the
    queries scaled; the other columns are the products themselves. -/
def entry (x : ℕ → EReal) (n l : ℕ) : EReal :=
  if l / 1024 = 0 then turned 32 0x42000000#32 x n l
  else if l / 1024 = 3 then turned 16 0x41800000#32 x n l
  else if l / 1024 = 5 then turned 32 0x42000000#32 x n l * Ideal.ofBits .f32 0x3DB504F3#32
  else if l / 1024 = 8 then turned 16 0x41800000#32 x n l * Ideal.ofBits .f32 0x3E000000#32
  else x l

/-- A row of 13312 entries at any natural number, zero outside. -/
def atNat (x : Fin 13312 → EReal) (l : ℕ) : EReal := if h : l < 13312 then x ⟨l, h⟩ else 0

theorem atNat_of_lt (x : Fin 13312 → EReal) {l : ℕ} (h : l < 13312) : atNat x l = x ⟨l, h⟩ := dif_pos h

/-- The three factors of a lane in turn: for the lane itself, for the lane a quarter above and for the lane a quarter
    below. -/
def factor (q : ℕ) (qf : BitVec 32) (s : EReal) (k n l : ℕ) : EReal :=
  (if k < 1 then Ideal.cos (ang qf n (l / (2 * q) % 2) (l % q))
    else if k < 2 then if l % (2 * q) < q then -Ideal.sin (ang qf n (l / (2 * q) % 2) (l % q)) else 0
    else if l % (2 * q) < q then 0 else Ideal.sin (ang qf n (l / (2 * q) % 2) (l % q))) * s

/-- Turning a row and scaling it is adding three products with the scaled factors: of the two neighbours' factors one is
    zero at every lane.  `u` and `v` are what the neighbours are where their factors are not zero. -/
theorem turned_scale (q : ℕ) (qf : BitVec 32) (x : ℕ → EReal) (n l : ℕ) (u v s : EReal) (h0 : 0 ≤ s) (ht : s ≠ ⊤)
    (hu : l % (2 * q) < q → u = x (l + q)) (hv : ¬ l % (2 * q) < q → v = x (l - q)) :
    x l * factor q qf s 0 n l + u * factor q qf s 1 n l + v * factor q qf s 2 n l = turned q qf x n l * s := by
  unfold factor turned
  generalize Ideal.cos _ = C
  generalize Ideal.sin _ = S
  by_cases h : l % (2 * q) < q
  · simp only [h, if_true, hu h, zero_mul, mul_zero, add_zero, Nat.lt_irrefl, if_false,
      show (0 : ℕ) < 1 from Nat.one_pos, show (1 : ℕ) < 2 from Nat.one_lt_two, show ¬ (2 : ℕ) < 1 by decide]
    rw [sub_eq_add_neg, EReal.right_distrib_of_nonneg_of_ne_top h0 ht, mul_assoc, EReal.neg_mul, EReal.neg_mul, mul_neg,
      mul_assoc]
  · simp only [h, if_true, hv h, zero_mul, mul_zero, add_zero, Nat.lt_irrefl, if_false,
      show (0 : ℕ) < 1 from Nat.one_pos, show (1 : ℕ) < 2 from Nat.one_lt_two, show ¬ (2 : ℕ) < 1 by decide]
    rw [EReal.right_distrib_of_nonneg_of_ne_top h0 ht, mul_assoc, mul_assoc, add_comm]

end InProj
-- ==== Proof.InProjTables.lean ====
/-
The two arrays that the input projection's host code prepares, written as functions: the weights with their leading axis
of one dropped, and the four tables of factors that the kernel rotates heads by.
-/
module

public import proofs.«01_k».proof.Proof.Gen.InProjIdeal.Frame
public import proofs.«01_k».proof.Proof.InProjMath
public import Idealize.ShloMosaic.Lib.Claim
public import Idealize.ShloMosaic.Lib.Pointwise
public import Idealize.ShloMosaic.Lib.Pipeline.ValueKit

@[expose] public section

set_option maxRecDepth 16384

noncomputable section

namespace Cert.InProjIdeal.Call

open Idealize.ShloMosaic Idealize.ShloMosaic.TcCoe Idealize.ShloMosaic.Tactic Idealize.SL.Sem
open Cert.InProjIdeal Cert.InProjIdeal.Gen

variable {F : FTy → Type} [FloatOps F]

/-- The divisor that a remainder uses: one in place of zero. -/
def divisor (c : Vec F S_ .i32) : Vec F S_ .i32 :=
  select (cmpi .eq c (constantI S_ 32 0#32)) (constantI S_ 32 1#32) c

/-- The remainder with the divisor's sign, entry by entry. -/
def remainder {s : Shape} (hb : (S_ : Shape).BroadcastsInDim s ![]) (x : Vec F s .i32) (c : Vec F S_ .i32) :
    Vec F s .i32 :=
  select
    (andi (cmpi .ne (cmpi .slt (Host.remsi x (broadcastInDim s ![] hb (divisor (F := F) c)))
        (broadcastInDim s ![] hb (constantI S_ 32 0#32)))
        (broadcastInDim s ![] hb (cmpi .slt (divisor (F := F) c) (constantI S_ 32 0#32))))
      (cmpi .ne (Host.remsi x (broadcastInDim s ![] hb (divisor (F := F) c)))
        (broadcastInDim s ![] hb (constantI S_ 32 0#32))))
    (addi (Host.remsi x (broadcastInDim s ![] hb (divisor (F := F) c)))
      (broadcastInDim s ![] hb (divisor (F := F) c)))
    (Host.remsi x (broadcastInDim s ![] hb (divisor (F := F) c)))

/-- The quotient rounded down, entry by entry. -/
def quotient (x : Vec F S4096 .i32) (c : Vec F S_ .i32) : Vec F S4096 .i32 :=
  select
    (andi (cmpi .ne (signi x) (broadcastInDim S4096 ![] bcast_S_S4096 (signi c)))
      (cmpi .ne (Host.remsi x (broadcastInDim S4096 ![] bcast_S_S4096 c))
        (broadcastInDim S4096 ![] bcast_S_S4096 (constantI S_ 32 0#32))))
    (subi (Host.divsi x (broadcastInDim S4096 ![] bcast_S_S4096 c))
      (broadcastInDim S4096 ![] bcast_S_S4096 (constantI S_ 32 1#32)))
    (Host.divsi x (broadcastInDim S4096 ![] bcast_S_S4096 c))

/-- The row of each position on the 64 × 64 grid. -/
def rowOf : Vec F S4096 .f32 := sitofp .f32 (quotient (F := F) (iotaInDim S4096 32 0) (constantI S_ 32 64#32))

/-- The column of each position on the 64 × 64 grid. -/
def colOf : Vec F S4096 .f32 :=
  sitofp .f32 (remainder (F := F) bcast_S_S4096 (iotaInDim S4096 32 0) (constantI S_ 32 64#32))

/-- The lane inside its head of `d` lanes. -/
def inHead (d : BitVec 32) : Vec F S128 .i32 :=
  remainder (F := F) bcast_S_S128 (iotaInDim S128 32 0) (constantI S_ 32 d)

/-- The lane inside its half head of `h` lanes. -/
def inHalf (d h : BitVec 32) : Vec F S128 .i32 :=
  remainder (F := F) bcast_S_S128 (inHead (F := F) d) (constantI S_ 32 h)

/-- The lane inside its quarter head of `q` lanes. -/
def inQuarter (d h q : BitVec 32) : Vec F S128 .i32 :=
  remainder (F := F) bcast_S_S128 (inHalf (F := F) d h) (constantI S_ 32 q)

/-- The lanes of the first quarter of each half head. -/
def firstQuarter (d h q : BitVec 32) : Vec F S128 .i1 :=
  cmpi .slt (inHalf (F := F) d h) (broadcastInDim S128 ![] bcast_S_S128 (constantI S_ 32 q))

/-- The lanes that turn with the column rather than the row. -/
def byColumn (d h : BitVec 32) : Vec F S128 .i1 :=
  cmpi .sge (inHead (F := F) d) (broadcastInDim S128 ![] bcast_S_S128 (constantI S_ 32 h))

/-- The frequency of each lane; `qf` is the bit pattern of the quarter head's size. -/
def frequency (d h q qf : BitVec 32) : Vec F S128 .f32 :=
  Host.powf (broadcastInDim S128 ![] bcast_S_S128 (constant S_ .f32 0x461C4000#32))
    (Host.divf (Host.negf (sitofp .f32 (inQuarter (F := F) d h q)))
      (broadcastInDim S128 ![] bcast_S_S128 (constant S_ .f32 qf)))

/-- The angle of each position and lane. -/
def angle (d h q qf : BitVec 32) : Vec F S4096x128 .f32 :=
  mulf
    (select
      (broadcastInDim S4096x128 ![0, 1] bcast_S1x128_S4096x128_0_1
        (broadcastInDim S1x128 ![1] bcast_S128_S1x128_1 (byColumn (F := F) d h)))
      (broadcastInDim S4096x128 ![0, 1] bcast_S4096x1_S4096x128_0_1
        (broadcastInDim S4096x1 ![0] bcast_S4096_S4096x1_0 colOf))
      (broadcastInDim S4096x128 ![0, 1] bcast_S4096x1_S4096x128_0_1
        (broadcastInDim S4096x1 ![0] bcast_S4096_S4096x1_0 rowOf)))
    (broadcastInDim S4096x128 ![0, 1] bcast_S1x128_S4096x128_0_1
      (broadcastInDim S1x128 ![1] bcast_S128_S1x128_1 (frequency d h q qf)))

/-- Whether a lane is of the first quarter, at every position. -/
def firstAt (d h q : BitVec 32) : Vec F S4096x128 .i1 :=
  broadcastInDim S4096x128 ![0, 1] bcast_S1x128_S4096x128_0_1
    (broadcastInDim S1x128 ![1] bcast_S128_S1x128_1 (firstQuarter (F := F) d h q))

/-- Zero everywhere. -/
def zeros : Vec F S4096x128 .f32 :=
  broadcastInDim S4096x128 ![] bcast_S_S4096x128 (constant S_ .f32 0x00000000#32)

/-- One kind of head's three factors (for the lane itself, the lane above, the lane below), times a scale. -/
def factors (d h q qf sc : BitVec 32) : Vec F S3x4096x128 .f32 :=
  mulf
    (concatenate S3x4096x128 0
      [⟨S1x4096x128, broadcastInDim S1x4096x128 ![1, 2] bcast_S4096x128_S1x4096x128_1_2
          (Host.cos (angle (F := F) d h q qf))⟩,
       ⟨S1x4096x128, broadcastInDim S1x4096x128 ![1, 2] bcast_S4096x128_S1x4096x128_1_2
          (select (firstAt (F := F) d h q) (Host.negf (Host.sin (angle (F := F) d h q qf))) zeros)⟩,
       ⟨S1x4096x128, broadcastInDim S1x4096x128 ![1, 2] bcast_S4096x128_S1x4096x128_1_2
          (select (firstAt (F := F) d h q) zeros (Host.sin (angle (F := F) d h q qf)))⟩]
      concatenates_S1x4096x128_S1x4096x128_S1x4096x128_S3x4096x128_d0)
    (broadcastInDim S3x4096x128 ![] bcast_S_S3x4096x128 (constant S_ .f32 sc))

/-- The four kinds' factors, one after another. -/
def tables : Vec F S4x3x4096x128 .f32 :=
  concatenate S4x3x4096x128 0
    [⟨S1x3x4096x128, broadcastInDim S1x3x4096x128 ![1, 2, 3] bcast_S3x4096x128_S1x3x4096x128_1_2_3
        (factors (F := F) 128#32 64#32 32#32 0x42000000#32 0x3F800000#32)⟩,
     ⟨S1x3x4096x128, broadcastInDim S1x3x4096x128 ![1, 2, 3] bcast_S3x4096x128_S1x3x4096x128_1_2_3
        (factors (F := F) 128#32 64#32 32#32 0x42000000#32 0x3DB504F3#32)⟩,
     ⟨S1x3x4096x128, broadcastInDim S1x3x4096x128 ![1, 2, 3] bcast_S3x4096x128_S1x3x4096x128_1_2_3
        (factors (F := F) 64#32 32#32 16#32 0x41800000#32 0x3F800000#32)⟩,
     ⟨S1x3x4096x128, broadcastInDim S1x3x4096x128 ![1, 2, 3] bcast_S3x4096x128_S1x3x4096x128_1_2_3
        (factors (F := F) 64#32 32#32 16#32 0x41800000#32 0x3E000000#32)⟩]
    concatenates_S1x3x4096x128_S1x3x4096x128_S1x3x4096x128_S1x3x4096x128_S4x3x4096x128_d0

variable (m : (ℓ : Loc nD τ sig) → Buf (Elt F) ℓ)

/-- The weights as the kernel reads them: the argument without its leading axis. -/
theorem weights_eq (c : Dev nD) :
    V m c main_v143 = shapeCast S2048x13312 (m ((c : Thread nD τ).loc main_arg0)) shapeCasts_S1x2048x13312_S2048x13312 := by
  sl_kernel_rfl

/-- The tables as the kernel reads them. -/
theorem tables_eq (c : Dev nD) : V m c main_v142 = tables (F := F) := by
  sl_kernel_rfl

/-! ## The tables' entries -/

/-- What the three words of a kind of head say of a lane: which half and which quarter of its head it lies in, and where
    in the quarter. -/
structure Lanes (d h w : BitVec 32) (q : ℕ) : Prop where
  half : ∀ l : Fin 128, byColumn (F := Ideal) d h (ix1 l) = if l.val / (2 * q) % 2 < 1 then 0#1 else 1#1
  first : ∀ l : Fin 128, firstQuarter (F := Ideal) d h w (ix1 l) = if l.val % (2 * q) < q then 1#1 else 0#1
  lane : ∀ l : Fin 128, inQuarter (F := Ideal) d h w (ix1 l) = BitVec.ofNat 32 (l.val % q)

theorem wide_lanes : Lanes 128#32 64#32 32#32 32 := ⟨by decide +kernel, by decide +kernel, by decide +kernel⟩

theorem narrow_lanes : Lanes 64#32 32#32 16#32 16 := ⟨by decide +kernel, by decide +kernel, by decide +kernel⟩

/-- The column of a position. -/
theorem col_word : ∀ n : Fin 4096, remainder (F := Ideal) bcast_S_S4096 (iotaInDim S4096 32 0) (constantI S_ 32 64#32) (ix1 n)
    = BitVec.ofNat 32 (n.val % 64) := by
  decide +kernel

/-- The row of a position. -/
theorem row_word : ∀ n : Fin 4096, quotient (F := Ideal) (iotaInDim S4096 32 0) (constantI S_ 32 64#32) (ix1 n)
    = BitVec.ofNat 32 (n.val / 64) := by
  decide +kernel

/-- One kind of head's factors, entry by entry. -/
theorem factors_at {d h w : BitVec 32} {q : ℕ} (hl : Lanes d h w q) (qf sc : BitVec 32) (k : Fin 3) (n : Fin 4096)
    (l : Fin 128) :
    factors (F := Ideal) d h w qf sc (ix3 k n l) = InProj.factor q qf (Ideal.ofBits .f32 sc) k.val n.val l.val := by
  pointwise [factors, angle, firstAt, zeros, frequency, colOf, rowOf]
  rw [hl.half, hl.first, hl.lane, col_word, row_word]
  unfold InProj.factor InProj.ang InProj.freq InProj.num
  congr 1
  by_cases h1 : l.val / (2 * q) % 2 < 1 <;> by_cases h2 : l.val % (2 * q) < q <;> by_cases h3 : k.val < 1 <;>
    by_cases h4 : k.val < 2 <;>
    simp [h1, h2, h3, h4, Scalar.select, show k.val - 1 < 1 ↔ k.val < 2 by omega]

/-- The tables' entries: kind `g`'s factors. -/
theorem tables_at (g : Fin 4) (k : Fin 3) (n : Fin 4096) (l : Fin 128) :
    tables (F := Ideal) (ix4 g k n l)
      = if g.val = 0 then InProj.factor 32 0x42000000#32 (Ideal.ofBits .f32 0x3F800000#32) k.val n.val l.val
        else if g.val = 1 then InProj.factor 32 0x42000000#32 (Ideal.ofBits .f32 0x3DB504F3#32) k.val n.val l.val
        else if g.val = 2 then InProj.factor 16 0x41800000#32 (Ideal.ofBits .f32 0x3F800000#32) k.val n.val l.val
        else InProj.factor 16 0x41800000#32 (Ideal.ofBits .f32 0x3E000000#32) k.val n.val l.val := by
  rw [← factors_at wide_lanes, ← factors_at wide_lanes, ← factors_at narrow_lanes, ← factors_at narrow_lanes]
  unfold tables
  generalize factors (F := Ideal) _ _ _ _ _ = A
  generalize factors (F := Ideal) _ _ _ _ _ = B
  generalize factors (F := Ideal) _ _ _ _ _ = C
  generalize factors (F := Ideal) _ _ _ _ _ = D
  pointwise []
  fin_cases g <;> simp

end Cert.InProjIdeal.Call
-- ==== Proof.InProjRef.lean ====
/-
The reference of the input projection, entry by entry.
-/
module

public import proofs.«01_k».proof.Proof.InProjMath
public import proofs.«01_k».proof.Proof.Gen.InProjReferenceIdeal.Read
public import Idealize.ShloMosaic.Lib.Pointwise

@[expose] public section

set_option maxRecDepth 16384

noncomputable section

namespace Cert.InProjReferenceIdeal.Call

open Idealize.ShloMosaic Idealize.ShloMosaic.TcCoe Idealize.SL.Sem
open Cert.InProjReferenceIdeal Cert.InProjReferenceIdeal.Gen Cert.InProjReferenceIdeal.Read

/-- One turned segment of 1024 columns in heads of 128, as the reference computes it from the segment `p`, the cosines
    `c` and the sines `s`. -/
def wide (p : FVec Ideal S2x4096x1024 .f32) (c s : FVec Ideal S1x4096x1x2x32 .f32) : FVec Ideal S2x4096x1024 .f32 :=
  let y := shapeCast S2x4096x8x2x2x32 (shapeCast S2x4096x8x128 p shapeCasts_S2x4096x1024_S2x4096x8x128)
    shapeCasts_S2x4096x8x128_S2x4096x8x2x2x32
  let y1 := shapeCast S2x4096x8x2x32 (extractStridedSlice S2x4096x8x2x1x32 ![0, 0, 0, 0, 0, 0] y
    slices_S2x4096x8x2x2x32_S2x4096x8x2x1x32_0_0_0_0_0_0) shapeCasts_S2x4096x8x2x1x32_S2x4096x8x2x32
  let y2 := shapeCast S2x4096x8x2x32 (extractStridedSlice S2x4096x8x2x1x32 ![0, 0, 0, 0, 1, 0] y
    slices_S2x4096x8x2x2x32_S2x4096x8x2x1x32_0_0_0_0_1_0) shapeCasts_S2x4096x8x2x1x32_S2x4096x8x2x32
  let c' := broadcastInDim S2x4096x8x2x32 ![0, 1, 2, 3, 4] bcast_S1x4096x1x2x32_S2x4096x8x2x32_0_1_2_3_4 c
  let s' := broadcastInDim S2x4096x8x2x32 ![0, 1, 2, 3, 4] bcast_S1x4096x1x2x32_S2x4096x8x2x32_0_1_2_3_4 s
  shapeCast S2x4096x1024
    (concatenate S2x4096x8x2x2x32 4
      [⟨S2x4096x8x2x1x32, broadcastInDim S2x4096x8x2x1x32 ![0, 1, 2, 3, 5] bcast_S2x4096x8x2x32_S2x4096x8x2x1x32_0_1_2_3_5
          (subf (mulf y1 c') (mulf y2 s'))⟩,
       ⟨S2x4096x8x2x1x32, broadcastInDim S2x4096x8x2x1x32 ![0, 1, 2, 3, 5] bcast_S2x4096x8x2x32_S2x4096x8x2x1x32_0_1_2_3_5
          (addf (mulf y1 s') (mulf y2 c'))⟩]
      concatenates_S2x4096x8x2x1x32_S2x4096x8x2x1x32_S2x4096x8x2x2x32_d4)
    shapeCasts_S2x4096x8x2x2x32_S2x4096x1024

/-- One turned segment of 1024 columns in heads of 64, as the reference computes it from the segment `p`, the cosines
    `c` and the sines `s`. -/
def narrow (p : FVec Ideal S2x4096x1024 .f32) (c s : FVec Ideal S1x4096x1x2x16 .f32) : FVec Ideal S2x4096x1024 .f32 :=
  let y := shapeCast S2x4096x16x2x2x16 (shapeCast S2x4096x16x64 p shapeCasts_S2x4096x1024_S2x4096x16x64)
    shapeCasts_S2x4096x16x64_S2x4096x16x2x2x16
  let y1 := shapeCast S2x4096x16x2x16 (extractStridedSlice S2x4096x16x2x1x16 ![0, 0, 0, 0, 0, 0] y
    slices_S2x4096x16x2x2x16_S2x4096x16x2x1x16_0_0_0_0_0_0) shapeCasts_S2x4096x16x2x1x16_S2x4096x16x2x16
  let y2 := shapeCast S2x4096x16x2x16 (extractStridedSlice S2x4096x16x2x1x16 ![0, 0, 0, 0, 1, 0] y
    slices_S2x4096x16x2x2x16_S2x4096x16x2x1x16_0_0_0_0_1_0) shapeCasts_S2x4096x16x2x1x16_S2x4096x16x2x16
  let c' := broadcastInDim S2x4096x16x2x16 ![0, 1, 2, 3, 4] bcast_S1x4096x1x2x16_S2x4096x16x2x16_0_1_2_3_4 c
  let s' := broadcastInDim S2x4096x16x2x16 ![0, 1, 2, 3, 4] bcast_S1x4096x1x2x16_S2x4096x16x2x16_0_1_2_3_4 s
  shapeCast S2x4096x1024
    (concatenate S2x4096x16x2x2x16 4
      [⟨S2x4096x16x2x1x16, broadcastInDim S2x4096x16x2x1x16 ![0, 1, 2, 3, 5] bcast_S2x4096x16x2x16_S2x4096x16x2x1x16_0_1_2_3_5
          (subf (mulf y1 c') (mulf y2 s'))⟩,
       ⟨S2x4096x16x2x1x16, broadcastInDim S2x4096x16x2x1x16 ![0, 1, 2, 3, 5] bcast_S2x4096x16x2x16_S2x4096x16x2x1x16_0_1_2_3_5
          (addf (mulf y1 s') (mulf y2 c'))⟩]
      concatenates_S2x4096x16x2x1x16_S2x4096x16x2x1x16_S2x4096x16x2x2x16_d4)
    shapeCasts_S2x4096x16x2x2x16_S2x4096x1024

variable (x0 : (⟨S1x2048x13312, .f32⟩ : BufTy).Contents (Elt Ideal)) (x1 : (⟨S8192x2048, .bf16⟩ : BufTy).Contents (Elt Ideal))

theorem v45_eq : val_main_v45 x0 x1 = wide (val_main_v11 x0 x1) (val_main_v25 (F := Ideal)) (val_main_v26 (F := Ideal)) := rfl

theorem v115_eq : val_main_v115 x0 x1 = wide (val_main_v81 x0 x1) (val_main_v25 (F := Ideal)) (val_main_v26 (F := Ideal)) := rfl

theorem v80_eq : val_main_v80 x0 x1 = narrow (val_main_v46 x0 x1) (val_main_v60 (F := Ideal)) (val_main_v61 (F := Ideal)) := rfl

theorem v152_eq : val_main_v152 x0 x1 = narrow (val_main_v118 x0 x1) (val_main_v60 (F := Ideal)) (val_main_v61 (F := Ideal)) := rfl

/-- A position's row and column on the 64 × 64 grid. -/
theorem pos_at (n : Fin 4096) (a : Fin 2) :
    val_main_v6 (F := Ideal) (ix2 n a) = if a.val < 1 then InProj.num (n.val / 64) else InProj.num (n.val % 64) := by
  pointwise [val_main_v6, val_main_v5, val_main_v4, val_main_v3, val_main_v2, val_main_v1, val_main_v0]
  rfl

/-- The angle of a position, a half and a lane of a head of 128. -/
theorem wide_angle (n : Fin 4096) (a : Fin 2) (k : Fin 32) :
    val_main_v24 (F := Ideal) (ix5 0 n 0 a k) = InProj.ang 0x42000000#32 n.val a.val k.val := by
  have e : val_main_v24 (F := Ideal) (ix5 0 n 0 a k) = val_main_v6 (F := Ideal) (ix2 n a) * val_main_v18 (F := Ideal) (ix1 k) := by
    pointwise [val_main_v24, val_main_v23, val_main_v22, val_main_v21, val_main_v20, val_main_v19]
  have f : val_main_v18 (F := Ideal) (ix1 k) = InProj.freq 0x42000000#32 k.val := by
    pointwise [val_main_v18, val_main_v17, val_main_v16, val_main_v15, val_main_v14, val_main_v13, val_main_cst, val_main_cst_0]
    rfl
  rw [e, f, pos_at, InProj.ang]

/-- One turned segment in heads of 128: with `x` a row whose segment from column `o` is row `(b, n)` of `p`. -/
theorem wide_at (p : FVec Ideal S2x4096x1024 .f32) (b : Fin 2) (n : Fin 4096) (l : Fin 1024) (x : ℕ → EReal) (o : ℕ)
    (ho : o % 1024 = 0) (hx : ∀ l : Fin 1024, p (ix3 b n l) = x (o + l.val)) :
    wide p (val_main_v25 (F := Ideal)) (val_main_v26 (F := Ideal)) (ix3 b n l) = InProj.turned 32 0x42000000#32 x n.val (o + l.val) := by
  have hc : ∀ (a : Fin 2) (k : Fin 32), val_main_v25 (F := Ideal) (ix5 0 n 0 a k) = Ideal.cos (InProj.ang 0x42000000#32 n.val a.val k.val) :=
    fun a k => congrArg Ideal.cos (wide_angle n a k)
  have hs : ∀ (a : Fin 2) (k : Fin 32), val_main_v26 (F := Ideal) (ix5 0 n 0 a k) = Ideal.sin (InProj.ang 0x42000000#32 n.val a.val k.val) :=
    fun a k => congrArg Ideal.sin (wide_angle n a k)
  generalize val_main_v25 (F := Ideal) = c at hc ⊢
  generalize val_main_v26 (F := Ideal) = s at hs ⊢
  pointwise [wide]
  simp only [hx, hc, hs]
  unfold InProj.turned
  have e1 : (o + l.val) / (2 * 32) % 2 = l.val / 64 % 2 := by omega
  have e2 : (o + l.val) % 32 = l.val % 32 := by omega
  rw [e1, e2]
  by_cases h : l.val / 32 % 2 < 1
  · have h' : (o + l.val) % (2 * 32) < 32 := by omega
    rw [dif_pos h, if_pos h']
    have e3 : o + (l.val / 128 * 128 + l.val / 64 % 2 * 64 + l.val % 32) = o + l.val := by omega
    have e4 : o + (l.val / 128 * 128 + l.val / 64 % 2 * 64 + 32 + l.val % 32) = o + l.val + 32 := by omega
    rw [e3, e4]
  · have h' : ¬ (o + l.val) % (2 * 32) < 32 := by omega
    rw [dif_neg h, if_neg h']
    have e3 : o + (l.val / 128 * 128 + l.val / 64 % 2 * 64 + l.val % 32) = o + l.val - 32 := by omega
    have e4 : o + (l.val / 128 * 128 + l.val / 64 % 2 * 64 + 32 + l.val % 32) = o + l.val := by omega
    rw [e3, e4]

/-- The angle of a position, a half and a lane of a head of 64. -/
theorem narrow_angle (n : Fin 4096) (a : Fin 2) (k : Fin 16) :
    val_main_v59 (F := Ideal) (ix5 0 n 0 a k) = InProj.ang 0x41800000#32 n.val a.val k.val := by
  have e : val_main_v59 (F := Ideal) (ix5 0 n 0 a k) = val_main_v6 (F := Ideal) (ix2 n a) * val_main_v53 (F := Ideal) (ix1 k) := by
    pointwise [val_main_v59, val_main_v58, val_main_v57, val_main_v56, val_main_v55, val_main_v54]
  have f : val_main_v53 (F := Ideal) (ix1 k) = InProj.freq 0x41800000#32 k.val := by
    pointwise [val_main_v53, val_main_v52, val_main_v51, val_main_v50, val_main_v49, val_main_v48, val_main_cst_1, val_main_cst_2]
    rfl
  rw [e, f, pos_at, InProj.ang]

/-- One turned segment in heads of 64: with `x` a row whose segment from column `o` is row `(b, n)` of `p`. -/
theorem narrow_at (p : FVec Ideal S2x4096x1024 .f32) (b : Fin 2) (n : Fin 4096) (l : Fin 1024) (x : ℕ → EReal) (o : ℕ)
    (ho : o % 1024 = 0) (hx : ∀ l : Fin 1024, p (ix3 b n l) = x (o + l.val)) :
    narrow p (val_main_v60 (F := Ideal)) (val_main_v61 (F := Ideal)) (ix3 b n l) = InProj.turned 16 0x41800000#32 x n.val (o + l.val) := by
  have hc : ∀ (a : Fin 2) (k : Fin 16), val_main_v60 (F := Ideal) (ix5 0 n 0 a k) = Ideal.cos (InProj.ang 0x41800000#32 n.val a.val k.val) :=
    fun a k => congrArg Ideal.cos (narrow_angle n a k)
  have hs : ∀ (a : Fin 2) (k : Fin 16), val_main_v61 (F := Ideal) (ix5 0 n 0 a k) = Ideal.sin (InProj.ang 0x41800000#32 n.val a.val k.val) :=
    fun a k => congrArg Ideal.sin (narrow_angle n a k)
  generalize val_main_v60 (F := Ideal) = c at hc ⊢
  generalize val_main_v61 (F := Ideal) = s at hs ⊢
  pointwise [narrow]
  simp only [hx, hc, hs]
  unfold InProj.turned
  have e1 : (o + l.val) / (2 * 16) % 2 = l.val / 32 % 2 := by omega
  have e2 : (o + l.val) % 16 = l.val % 16 := by omega
  rw [e1, e2]
  by_cases h : l.val / 16 % 2 < 1
  · have h' : (o + l.val) % (2 * 16) < 16 := by omega
    rw [dif_pos h, if_pos h']
    have e3 : o + (l.val / 64 * 64 + l.val / 32 % 2 * 32 + l.val % 16) = o + l.val := by omega
    have e4 : o + (l.val / 64 * 64 + l.val / 32 % 2 * 32 + 16 + l.val % 16) = o + l.val + 16 := by omega
    rw [e3, e4]
  · have h' : ¬ (o + l.val) % (2 * 16) < 16 := by omega
    rw [dif_neg h, if_neg h']
    have e3 : o + (l.val / 64 * 64 + l.val / 32 % 2 * 32 + l.val % 16) = o + l.val - 16 := by omega
    have e4 : o + (l.val / 64 * 64 + l.val / 32 % 2 * 32 + 16 + l.val % 16) = o + l.val := by omega
    rw [e3, e4]

/-- Entry `(r, q)` of the product of the activations with the weights. -/
def prod (r : Fin 8192) (q : Fin 13312) : EReal :=
  ∑ k : Fin 2048, (show FVec Ideal S8192x2048 .bf16 from x1) (ix2 r k) * (show FVec Ideal S1x2048x13312 .f32 from x0) (ix3 0 k q)

theorem v10_at (b : Fin 2) (n : Fin 4096) (q : Fin 13312) :
    val_main_v10 (F := Ideal) x0 x1 (ix3 b n q) = prod x0 x1 ⟨b.val * 4096 + n.val, by omega⟩ q := by
  pointwise [val_main_v10, val_main_v9, val_main_v8, val_main_v7]
  rfl

/-- The products of position `n` of image `b`. -/
def row (b : Fin 2) (n : Fin 4096) : ℕ → EReal := InProj.atNat (prod x0 x1 ⟨b.val * 4096 + n.val, by omega⟩)

theorem row_at (b : Fin 2) (n : Fin 4096) (q : Fin 13312) : val_main_v10 (F := Ideal) x0 x1 (ix3 b n q) = row x0 x1 b n q.val := by
  rw [v10_at, row, InProj.atNat_of_lt _ q.isLt]

/-- A segment of columns of the products. -/
theorem cut_at {w o : ℕ} (hw : o + w ≤ 13312) {y : FVec Ideal ⟨3, ![2, 4096, w]⟩ .f32} (b : Fin 2) (n : Fin 4096)
    (hy : ∀ l : Fin w, y (ix3 b n l) = val_main_v10 (F := Ideal) x0 x1 (ix3 b n ⟨o + l.val, by omega⟩)) (l : Fin w) :
    y (ix3 b n l) = row x0 x1 b n (o + l.val) := by
  rw [hy, row_at]

section Segments

variable (b : Fin 2) (n : Fin 4096)

theorem v11_at (l : Fin 1024) : val_main_v11 (F := Ideal) x0 x1 (ix3 b n l) = row x0 x1 b n (0 + l.val) :=
  cut_at x0 x1 (by omega) b n (fun l => by pointwise [val_main_v11]) l

theorem v46_at (l : Fin 1024) : val_main_v46 (F := Ideal) x0 x1 (ix3 b n l) = row x0 x1 b n (3072 + l.val) :=
  cut_at x0 x1 (by omega) b n (fun l => by pointwise [val_main_v46]) l

theorem v81_at (l : Fin 1024) : val_main_v81 (F := Ideal) x0 x1 (ix3 b n l) = row x0 x1 b n (5120 + l.val) :=
  cut_at x0 x1 (by omega) b n (fun l => by pointwise [val_main_v81]) l

theorem v118_at (l : Fin 1024) : val_main_v118 (F := Ideal) x0 x1 (ix3 b n l) = row x0 x1 b n (8192 + l.val) :=
  cut_at x0 x1 (by omega) b n (fun l => by pointwise [val_main_v118]) l

theorem v155_at (l : Fin 2048) : val_main_v155 (F := Ideal) x0 x1 (ix3 b n l) = row x0 x1 b n (1024 + l.val) :=
  cut_at x0 x1 (by omega) b n (fun l => by pointwise [val_main_v155]) l

theorem v156_at (l : Fin 1024) : val_main_v156 (F := Ideal) x0 x1 (ix3 b n l) = row x0 x1 b n (4096 + l.val) :=
  cut_at x0 x1 (by omega) b n (fun l => by pointwise [val_main_v156]) l

theorem v157_at (l : Fin 2048) : val_main_v157 (F := Ideal) x0 x1 (ix3 b n l) = row x0 x1 b n (6144 + l.val) :=
  cut_at x0 x1 (by omega) b n (fun l => by pointwise [val_main_v157]) l

theorem v158_at (l : Fin 4096) : val_main_v158 (F := Ideal) x0 x1 (ix3 b n l) = row x0 x1 b n (9216 + l.val) :=
  cut_at x0 x1 (by omega) b n (fun l => by pointwise [val_main_v158]) l

theorem v45_at (l : Fin 1024) : val_main_v45 (F := Ideal) x0 x1 (ix3 b n l)
    = InProj.turned 32 0x42000000#32 (row x0 x1 b n) n.val (0 + l.val) := by
  rw [v45_eq]
  exact wide_at _ b n l _ 0 rfl (v11_at x0 x1 b n)

theorem v80_at (l : Fin 1024) : val_main_v80 (F := Ideal) x0 x1 (ix3 b n l)
    = InProj.turned 16 0x41800000#32 (row x0 x1 b n) n.val (3072 + l.val) := by
  rw [v80_eq]
  exact narrow_at _ b n l _ 3072 rfl (v46_at x0 x1 b n)

/-- The product with a constant. -/
theorem v117_scale (i : S2x4096x1024.Idx) :
    val_main_v117 (F := Ideal) x0 x1 i = val_main_v115 (F := Ideal) x0 x1 i * Ideal.ofBits .f32 0x3DB504F3#32 := by
  rw [val_main_v117_apply, val_main_v116_apply, val_main_cst_5_apply]
  generalize val_main_v115 (F := Ideal) x0 x1 i = y
  rfl

theorem v117_at (l : Fin 1024) : val_main_v117 (F := Ideal) x0 x1 (ix3 b n l)
    = InProj.turned 32 0x42000000#32 (row x0 x1 b n) n.val (5120 + l.val) * Ideal.ofBits .f32 0x3DB504F3#32 := by
  rw [v117_scale, v115_eq]
  refine congrArg (fun z : EReal => z * Ideal.ofBits .f32 0x3DB504F3#32) ?_
  exact wide_at _ b n l _ 5120 rfl (v81_at x0 x1 b n)

/-- The product with a constant. -/
theorem v154_scale (i : S2x4096x1024.Idx) :
    val_main_v154 (F := Ideal) x0 x1 i = val_main_v152 (F := Ideal) x0 x1 i * Ideal.ofBits .f32 0x3E000000#32 := by
  rw [val_main_v154_apply, val_main_v153_apply, val_main_cst_8_apply]
  generalize val_main_v152 (F := Ideal) x0 x1 i = y
  rfl

theorem v154_at (l : Fin 1024) : val_main_v154 (F := Ideal) x0 x1 (ix3 b n l)
    = InProj.turned 16 0x41800000#32 (row x0 x1 b n) n.val (8192 + l.val) * Ideal.ofBits .f32 0x3E000000#32 := by
  rw [v154_scale, v152_eq]
  refine congrArg (fun z : EReal => z * Ideal.ofBits .f32 0x3E000000#32) ?_
  exact narrow_at _ b n l _ 8192 rfl (v118_at x0 x1 b n)

end Segments

/-- The reference's eight segments side by side: each column of the turned segments is turned, each other column is the
    product. -/
theorem v159_at (b : Fin 2) (n : Fin 4096) (q : Fin 13312) :
    val_main_v159 (F := Ideal) x0 x1 (ix3 b n q) = InProj.entry (row x0 x1 b n) n.val q.val := by
  have h45 := v45_at x0 x1 b n
  have h155 := v155_at x0 x1 b n
  have h80 := v80_at x0 x1 b n
  have h156 := v156_at x0 x1 b n
  have h117 := v117_at x0 x1 b n
  have h157 := v157_at x0 x1 b n
  have h154 := v154_at x0 x1 b n
  have h158 := v158_at x0 x1 b n
  unfold val_main_v159
  generalize val_main_v45 (F := Ideal) x0 x1 = y1 at h45 ⊢
  generalize val_main_v155 (F := Ideal) x0 x1 = y2 at h155 ⊢
  generalize val_main_v80 (F := Ideal) x0 x1 = y3 at h80 ⊢
  generalize val_main_v156 (F := Ideal) x0 x1 = y4 at h156 ⊢
  generalize val_main_v117 (F := Ideal) x0 x1 = y5 at h117 ⊢
  generalize val_main_v157 (F := Ideal) x0 x1 = y6 at h157 ⊢
  generalize val_main_v154 (F := Ideal) x0 x1 = y7 at h154 ⊢
  generalize val_main_v158 (F := Ideal) x0 x1 = y8 at h158 ⊢
  generalize row x0 x1 b n = x at *
  pointwise []
  simp only [h45, h155, h80, h156, h117, h157, h154, h158]
  clear h45 h155 h80 h156 h117 h157 h154 h158 y1 y2 y3 y4 y5 y6 y7 y8
  have hq := q.isLt
  generalize q.val = l at *
  unfold InProj.entry
  by_cases c1 : l < 1024
  · rw [dif_pos c1, if_pos (by omega), show 0 + l = l by omega]
  rw [dif_neg c1, if_neg (by omega : ¬ l / 1024 = 0)]
  by_cases c2 : l - 1024 < 2048
  · rw [dif_pos c2, if_neg (by omega), if_neg (by omega), if_neg (by omega), show 1024 + (l - 1024) = l by omega]
  rw [dif_neg c2]
  by_cases c3 : l - 1024 - 2048 < 1024
  · rw [dif_pos c3, if_pos (by omega), show 3072 + (l - 1024 - 2048) = l by omega]
  rw [dif_neg c3, if_neg (by omega : ¬ l / 1024 = 3)]
  by_cases c4 : l - 1024 - 2048 - 1024 < 1024
  · rw [dif_pos c4, if_neg (by omega), if_neg (by omega), show 4096 + (l - 1024 - 2048 - 1024) = l by omega]
  rw [dif_neg c4]
  by_cases c5 : l - 1024 - 2048 - 1024 - 1024 < 1024
  · rw [dif_pos c5, if_pos (by omega), show 5120 + (l - 1024 - 2048 - 1024 - 1024) = l by omega]
  rw [dif_neg c5, if_neg (by omega : ¬ l / 1024 = 5)]
  by_cases c6 : l - 1024 - 2048 - 1024 - 1024 - 1024 < 2048
  · rw [dif_pos c6, if_neg (by omega), show 6144 + (l - 1024 - 2048 - 1024 - 1024 - 1024) = l by omega]
  rw [dif_neg c6]
  by_cases c7 : l - 1024 - 2048 - 1024 - 1024 - 1024 - 2048 < 1024
  · rw [dif_pos c7, if_pos (by omega), show 8192 + (l - 1024 - 2048 - 1024 - 1024 - 1024 - 2048) = l by omega]
  rw [dif_neg c7, if_neg (by omega : ¬ l / 1024 = 8),
    show 9216 + (l - 1024 - 2048 - 1024 - 1024 - 1024 - 2048 - 1024) = l by omega]

/-- The reference, entry by entry. -/
theorem entry_at (r : Fin 8192) (q : Fin 13312) :
    val_main_v161 (F := Ideal) x0 x1 (ix2 r q) = InProj.entry (InProj.atNat (prod x0 x1 r)) (r.val % 4096) q.val := by
  have e : val_main_v161 (F := Ideal) x0 x1 (ix2 r q)
      = val_main_v159 (F := Ideal) x0 x1 (ix3 ⟨r.val / 4096, by omega⟩ ⟨r.val % 4096, by omega⟩ q) := by
    pointwise [val_main_v161, val_main_v160]
  rw [e, v159_at, row]
  have hr : (⟨r.val / 4096 * 4096 + r.val % 4096, by omega⟩ : Fin 8192) = r := Fin.ext (by show r.val / 4096 * 4096 + r.val % 4096 = r.val; omega)
  rw [hr]

end Cert.InProjReferenceIdeal.Call
-- ==== Proof.InProjValue.lean ====
/-
The input projection's result is the reference's.
-/
module

public import proofs.«01_k».proof.Proof.InProjTile
public import proofs.«01_k».proof.Proof.InProjTables
public import proofs.«01_k».proof.Proof.InProjRef
public import Idealize.ShloMosaic.Lib.Pipeline.ValueKit

@[expose] public section

set_option maxRecDepth 16384

noncomputable section

namespace Cert.InProjIdeal.Call

open Idealize.ShloMosaic Idealize.ShloMosaic.TcCoe Idealize.ShloMosaic.Tactic Idealize.SL.Sem
open Cert.InProjIdeal Cert.InProjIdeal.Gen
open Cert.InProjReferenceIdeal.Call (prod)

variable (m : (ℓ : Loc nD τ sig) → Buf (Elt Ideal) ℓ)

/-- The table that a column of blocks is turned with. -/
def kind (j : ℕ) : ℕ := if j = 5 then 1 else if j = 3 then 2 else if j = 8 then 3 else 0

theorem kind_lt (j : ℕ) : kind j < 4 := by unfold kind; split_ifs <;> decide

/-- The block of the tables that point `t` reads. -/
theorem index_factors : ∀ t : Fin cfg0.N, win0_2.index t = ![kind (t.val / 8), 0, t.val % 8 % 4, 0] :=
  (by decide +kernel : ∀ t : Fin grid0.N, _)

theorem points (t : Fin cfg0.N) : t.val < 104 := lt_of_lt_of_eq t.isLt (show cfg0.N = 104 from N_0)

/-- A block of the activations. -/
theorem acts_at (c : Dev nD) (t : Fin cfg0.N) (r : Fin 1024) (k : Fin 2048) :
    iblk m c 0 t (ix2 r k) = m ((c : Thread nD τ).loc main_arg1) (ix2 ⟨t.val % 8 * 1024 + r.val, by omega⟩ k) := by
  blk_point [iblk, V, index_val t]

/-- The weights without their leading axis of one. -/
theorem drop_at (A : FVec Ideal S1x2048x13312 .f32) (hc : S1x2048x13312.ShapeCasts S2048x13312) (k : Fin 2048) (q : Fin 13312) :
    shapeCast S2048x13312 A hc (ix2 k q) = A (ix3 0 k q) := by
  pointwise []

/-- A block of the weights. -/
theorem weights_at (c : Dev nD) (t : Fin cfg0.N) (k : Fin 2048) (q : Fin 1024) :
    iblk m c 1 t (ix2 k q)
      = m ((c : Thread nD τ).loc main_arg0) (ix3 0 k ⟨t.val / 8 * 1024 + q.val, by have := points t; omega⟩) := by
  have h : iblk m c 1 t (ix2 k q)
      = V m c (Pipeline.arrRef spec0 1) (ix2 k ⟨t.val / 8 * 1024 + q.val, by have := points t; omega⟩) := by
    unfold iblk
    generalize V m c (Pipeline.arrRef spec0 1) = A
    blk_point [index_val t]
  rw [h]
  exact (congrFun (weights_eq m c) _).trans (drop_at _ _ _ _)

/-- A block of the tables. -/
theorem tables_block (c : Dev nD) (t : Fin cfg0.N) (k : Fin 3) (r : Fin 1024) (l : Fin 128) :
    iblk m c 2 t (ix4 0 k r l)
      = tables (F := Ideal) (ix4 ⟨kind (t.val / 8), kind_lt _⟩ k ⟨t.val % 8 % 4 * 1024 + r.val, by omega⟩ l) := by
  have h : iblk m c 2 t (ix4 0 k r l)
      = V m c (Pipeline.arrRef spec0 2) (ix4 ⟨kind (t.val / 8), kind_lt _⟩ k ⟨t.val % 8 % 4 * 1024 + r.val, by omega⟩ l) := by
    unfold iblk
    generalize V m c (Pipeline.arrRef spec0 2) = A
    blk_point [index_factors t]
  rw [h]
  exact congrFun (tables_eq m c) _

/-- Rounding the weights changes nothing over the reals. -/
theorem rounded_at (x1 : Vec Ideal S2048x1024 .f32) (k : Fin 2048) (q : Fin 1024) :
    rounded (F := Ideal) x1 (ix2 k q) = x1 (ix2 k q) := by
  pointwise [rounded]

/-- The products of a point, by the row and column of the whole arrays. -/
theorem dot_block (c : Dev nD) (t : Fin cfg0.N) (r q : Fin 1024) :
    dotAt (iblk m c 0 t) (rounded (iblk m c 1 t)) r q
      = InProj.atNat (prod (m ((c : Thread nD τ).loc main_arg0)) (m ((c : Thread nD τ).loc main_arg1))
          ⟨t.val % 8 * 1024 + r.val, by omega⟩) (t.val / 8 * 1024 + q.val) := by
  rw [InProj.atNat_of_lt _ (by have := points t; omega)]
  unfold dotAt prod
  refine Finset.sum_congr rfl fun k _ => ?_
  rw [rounded_at, weights_at, acts_at]

/-! ## The three kinds of columns -/

/-- A lane's factors repeat from strip to strip. -/
theorem factor_lane {q : ℕ} (hq : q = 32 ∨ q = 16) (qf : BitVec 32) (s : EReal) (k n a l : ℕ) (h : a = l % 128) :
    InProj.factor q qf s k n a = InProj.factor q qf s k n l := by
  subst h
  rcases hq with rfl | rfl
  · unfold InProj.factor
    rw [show l % 128 / (2 * 32) % 2 = l / (2 * 32) % 2 by omega, show l % 128 % 32 = l % 32 by omega,
      show l % 128 % (2 * 32) = l % (2 * 32) by omega]
  · unfold InProj.factor
    rw [show l % 128 / (2 * 16) % 2 = l / (2 * 16) % 2 by omega, show l % 128 % 16 = l % 16 by omega,
      show l % 128 % (2 * 16) = l % (2 * 16) by omega]

/-- A turned block, by the row and column of the whole arrays: `x` is the row of products, `L` the column. -/
theorem turned_block {q : ℕ} (hq : q = 32 ∨ q = 16) (qf : BitVec 32) (s : EReal) (h0 : 0 ≤ s) (ht : s ≠ ⊤)
    (x : ℕ → EReal) (n L j : ℕ) (l : Fin 1024) (hL : L = j * 1024 + l.val) {u d : ℕ} (hu : u = q) (hd : d = 128 - q)
    (x0 : FVec Ideal S1024x2048 .bf16) (x2 : FVec Ideal S1x3x1024x128 .f32) (xs : FVec Ideal S2048x1024 .bf16) (r : Fin 1024)
    (hx : ∀ p : Fin 1024, dotAt x0 xs r p = x (j * 1024 + p.val))
    (hf : ∀ (k : Fin 3) (p : Fin 128), x2 (ix4 0 k r p) = InProj.factor q qf s k.val n p.val) :
    turnedAt u d x0 x2 xs r l = InProj.turned q qf x n L * s := by
  subst hu hd
  unfold turnedAt
  rw [hx, hx, hx, hf, hf, hf, factor_lane hq qf s _ n (l.val % 128) L (by omega),
    factor_lane hq qf s _ n (l.val % 128) L (by omega), factor_lane hq qf s _ n (l.val % 128) L (by omega), ← hL]
  refine InProj.turned_scale u qf x n L _ _ s h0 ht (fun h => congrArg x ?_) (fun h => congrArg x ?_)
  · show j * 1024 + (l.val / 128 * 128 + (l.val % 128 + u) % 128) = L + u
    rcases hq with rfl | rfl <;> omega
  · show j * 1024 + (l.val / 128 * 128 + (l.val % 128 + (128 - u)) % 128) = L - u
    rcases hq with rfl | rfl <;> omega

theorem scale_wide : 0 ≤ Ideal.ofBits .f32 0x3DB504F3#32 ∧ Ideal.ofBits .f32 0x3DB504F3#32 ≠ ⊤ := by
  simp [Ideal.ofBits, Ideal.ieee]
  refine ⟨mul_nonneg (EReal.coe_nonneg.mpr (by norm_num)) (EReal.coe_nonneg.mpr (by positivity)), ?_⟩
  rw [← EReal.coe_mul]
  exact EReal.coe_ne_top _

theorem scale_narrow : 0 ≤ Ideal.ofBits .f32 0x3E000000#32 ∧ Ideal.ofBits .f32 0x3E000000#32 ≠ ⊤ := by
  simp [Ideal.ofBits, Ideal.ieee]
  refine ⟨mul_nonneg (EReal.coe_nonneg.mpr (by norm_num)) (EReal.coe_nonneg.mpr (by positivity)), ?_⟩
  rw [← EReal.coe_mul]
  exact EReal.coe_ne_top _

theorem scale_one : 0 ≤ Ideal.ofBits .f32 0x3F800000#32 ∧ Ideal.ofBits .f32 0x3F800000#32 ≠ ⊤ := by
  rw [Ideal.ofBits_one_f32]
  exact ⟨zero_le_one, EReal.coe_ne_top 1⟩

/-- The reference's result. -/
abbrev ref (c : Dev nD) := Cert.InProjReferenceIdeal.Read.val_main_v161 (F := Ideal)
  (m ((c : Thread nD τ).loc main_arg0)) (m ((c : Thread nD τ).loc main_arg1))

/-- What a point stores, entry by entry. -/
theorem out_at (c : Dev nD) (t : Fin cfg0.N) (r l : Fin 1024) :
    out m c t (ix2 r l)
      = InProj.entry (InProj.atNat (prod (m ((c : Thread nD τ).loc main_arg0)) (m ((c : Thread nD τ).loc main_arg1))
          ⟨t.val % 8 * 1024 + r.val, by omega⟩)) (t.val % 8 % 4 * 1024 + r.val) (t.val / 8 * 1024 + l.val) := by
  have hj : (t.val / 8 * 1024 + l.val) / 1024 = t.val / 8 := by omega
  unfold out piecesAt pieces InProj.entry
  rw [hj]
  have hx := fun p => dot_block m c t r p
  have hf := fun k p => tables_block m c t k r p
  by_cases h2 : k0_cond2 (grid0.coords t) = 1#1
  · rw [dif_pos h2]
    refine (wide_value ..).trans ?_
    change turnedAt 32 96 _ _ _ r l = _
    rcases (wide_iff t).mp h2 with e | e
    · rw [if_pos e]
      refine (turned_block (.inl rfl) 0x42000000#32 _ scale_one.1 scale_one.2 _ (t.val % 8 % 4 * 1024 + r.val) _ _ _ rfl rfl rfl _ _ _ _ hx ?_).trans ?_
      · intro k p
        rw [hf, tables_at, if_pos (by simp [kind, e])]
      · rw [Ideal.ofBits_one_f32, mul_one]
    · rw [if_neg (by omega), if_neg (by omega), if_pos e]
      refine turned_block (.inl rfl) 0x42000000#32 _ scale_wide.1 scale_wide.2 _ _ _ _ _ rfl rfl rfl _ _ _ _ hx ?_
      intro k p
      rw [hf, tables_at, if_neg (by simp [kind, e]), if_pos (by simp [kind, e])]
  · have n2 := fun h => h2 ((wide_iff t).mpr h)
    rw [dif_neg h2, if_neg fun h => n2 (.inl h)]
    by_cases h3 : k0_cond3 (grid0.coords t) = 1#1
    · rw [dif_pos h3]
      refine (narrow_value ..).trans ?_
      change turnedAt 16 112 _ _ _ r l = _
      rcases (narrow_iff t).mp h3 with e | e
      · rw [if_pos e]
        refine (turned_block (.inr rfl) 0x41800000#32 _ scale_one.1 scale_one.2 _ (t.val % 8 % 4 * 1024 + r.val) _ _ _ rfl rfl rfl _ _ _ _ hx ?_).trans ?_
        · intro k p
          rw [hf, tables_at, if_neg (by simp [kind, e]), if_neg (by simp [kind, e]), if_pos (by simp [kind, e])]
        · rw [Ideal.ofBits_one_f32, mul_one]
      · rw [if_neg (by omega), if_neg (by omega), if_pos e]
        refine turned_block (.inr rfl) 0x41800000#32 _ scale_narrow.1 scale_narrow.2 _ _ _ _ _ rfl rfl rfl _ _ _ _ hx ?_
        intro k p
        rw [hf, tables_at, if_neg (by simp [kind, e]), if_neg (by simp [kind, e]), if_neg (by simp [kind, e])]
    · have n3 := fun h => h3 ((narrow_iff t).mpr h)
      rw [dif_neg h3, if_neg fun h => n3 (.inl h), if_neg fun h => n2 (.inr h), if_neg fun h => n3 (.inr h)]
      exact (plain_value ..).trans (hx l)

/-- An element of what a point stores is the reference's at the block's place. -/
theorem point (c : Dev nD) (t : Fin cfg0.N) (r l : Fin 1024) :
    out m c t (ix2 r l) = ref m c (ix2 ⟨t.val % 8 * 1024 + r.val, by omega⟩
      ⟨t.val / 8 * 1024 + l.val, by have := points t; omega⟩) := by
  refine (out_at m c t r l).trans (Eq.trans ?_ (Cert.InProjReferenceIdeal.Call.entry_at _ _ _ _).symm)
  exact congrArg (InProj.entry _ · _) (show t.val % 8 % 4 * 1024 + r.val = (t.val % 8 * 1024 + r.val) % 4096 by omega)

/-- The result array. -/
theorem final (c : Dev nD) : (dats m 0 c).arrAt 3 (cfgs 0).N = ref m c := by
  refine (dats m 0 c).arrAt_eq_of_covers 3 _ (by decide +kernel) fun t hf y => ?_
  blk_simp
  rw [after3]
  idx_vars y
  refine (point m c t _ _).trans (congrArg _ ?_)
  blk_ext [index_val t]

/-- Every fair run ends with the reference's result and the arguments unchanged. -/
theorem ends (ρ : Dev nD → PrngReg) : θ_run defs (onTc (τ := τ) (main (F := Ideal))) ⟨m, fun _ => 0, ρ⟩ (fun r => ∀ c : Dev nD,
      r.2.mem ((c.tc : Thread nD τ).loc main_v144) = ref m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 3).trans (final m c), h.2 c⟩)
    (θ_run_and (run_main m ρ) (frame_of m ρ (dats m) (A_eq m) (run_main m ρ)))

end Cert.InProjIdeal.Call

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.RetOut.Frame
public import proofs.«01_k».proof.Proof.Gen.RetOutIdeal.Frame
public import proofs.«01_k».proof.Proof.Gen.RetOutIdeal.Value
public import proofs.«01_k».proof.Proof.Gen.RetOutReferenceIdeal.Read
public import proofs.«01_k».proof.Proof.Gen.RetOutReferenceIdeal
public import proofs.«01_k».proof.Proof.Gen.DiffOut.Frame
public import proofs.«01_k».proof.Proof.Gen.DiffOutIdeal.Frame
public import proofs.«01_k».proof.Proof.Gen.DiffOutIdeal.Value
public import proofs.«01_k».proof.Proof.Gen.DiffOutReferenceIdeal.Read
public import proofs.«01_k».proof.Proof.Gen.DiffOutReferenceIdeal
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutReferenceIdeal.Read
public import proofs.«01_k».proof.Proof.Gen.MixOutReferenceIdeal
public import proofs.«01_k».proof.Proof.Gen.SharedUp.Frame
public import proofs.«01_k».proof.Proof.Gen.SharedUpIdeal.Frame
public import proofs.«01_k».proof.Proof.Gen.SharedUpIdeal.Value
public import proofs.«01_k».proof.Proof.Gen.SharedUpReferenceIdeal.Read
public import proofs.«01_k».proof.Proof.Gen.SharedUpReferenceIdeal
public import proofs.«01_k».proof.Proof.Gen.Final.Frame
public import proofs.«01_k».proof.Proof.Gen.FinalIdeal.Frame
public import proofs.«01_k».proof.Proof.Gen.FinalIdeal.Value
public import proofs.«01_k».proof.Proof.Gen.FinalReferenceIdeal.Read
public import proofs.«01_k».proof.Proof.Gen.FinalReferenceIdeal
public import proofs.«01_k».proof.Proof.Gen.CtxProj.Frame
public import proofs.«01_k».proof.Proof.Gen.CtxProjIdeal.Frame
public import proofs.«01_k».proof.Proof.Gen.CtxProjIdeal.Value
public import proofs.«01_k».proof.Proof.Gen.CtxProjReferenceIdeal.Read
public import proofs.«01_k».proof.Proof.Gen.CtxProjReferenceIdeal
public import proofs.«01_k».proof.Proof.Gen.InProj.Frame
public import proofs.«01_k».proof.Proof.Gen.InProjIdeal.Frame
public import proofs.«01_k».proof.Proof.Gen.InProjReferenceIdeal.Read
public import proofs.«01_k».proof.Proof.Gen.InProjReferenceIdeal
public import proofs.«01_k».proof.Proof.AttnPre
public import proofs.«01_k».proof.Proof.RetOutValue
public import proofs.«01_k».proof.Proof.DiffOutValue
public import proofs.«01_k».proof.Proof.MixOutValue
public import proofs.«01_k».proof.Proof.SharedUpValue
public import proofs.«01_k».proof.Proof.FinalValue
public import proofs.«01_k».proof.Proof.CtxProjValue
public import proofs.«01_k».proof.Proof.InProjSame
public import proofs.«01_k».proof.Proof.InProjValue
public import Idealize.ShloMosaic.Lib.Claim
public import Idealize.ShloMosaic.Adequacy
public import Idealize.ShloMosaic.Init

@[expose] public section

noncomputable section

namespace Cert.Proof

open Idealize.ShloMosaic Idealize.SL.Sem

/-- The attention's reference runs, leaves its arguments as they were and every semaphore at zero. -/
theorem reference_frame : Cert.quiescent_ReferenceIdeal (hReferenceIdeal := Cert.ReferenceIdeal.Gen.facts) := fun m g _ =>
  (θ_run Cert.ReferenceIdeal.defs _ _).mono
    (fun r h => ⟨fun c => ⟨(h c).2.1, (h c).2.2.1, (h c).2.2.2.1, (h c).2.2.2.2⟩,
      Idealize.ShloMosaic.sem_eq_zero_of_no_sems (by decide) r.2⟩)
    (Cert.ReferenceIdeal.Value.run (F := Ideal) m g)

/-- The attention call and its reference end with the same result, if the queries and keys are finite. -/
theorem attention : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.facts) := by
  pair_intro
  · run_from Cert.KernelIdeal.Gen.run_main m g
  · run_from Cert.ReferenceIdeal.Value.run m' g'
    rw [Cert.ReferenceIdeal.Read.val_main_v70_eq, (hagree c).1, (hagree c).2.1, (hagree c).2.2.1, (hagree c).2.2.2]
    exact (Cert.KernelIdeal.Attn.final m c (Cert.KernelIdeal.Attn.finite_of_pre hpre c)).symm

/-- The reference of the retention's output projection runs, leaves its arguments as they were and every semaphore at zero. -/
theorem ret_out_frame : Cert.quiescent_RetOutReferenceIdeal (hRetOutReferenceIdeal := Cert.RetOutReferenceIdeal.Gen.facts) := fun m g _ =>
  (θ_run Cert.RetOutReferenceIdeal.defs _ _).mono
    (fun r h => ⟨fun c => (h c).2, Idealize.ShloMosaic.sem_eq_zero_of_no_sems (by decide) r.2⟩)
    (Cert.RetOutReferenceIdeal.Value.run (F := Ideal) m g)

/-- The retention's output projection and its reference end with the same result. -/
theorem ret_out : Cert.algebraic_RetOutIdeal_RetOutReferenceIdeal
    (hRetOutIdeal := Cert.RetOutIdeal.Gen.facts) (hRetOutReferenceIdeal := Cert.RetOutReferenceIdeal.Gen.facts) := by
  pair_intro
  · run_from Cert.RetOutIdeal.Gen.run_main m g
  · run_from Cert.RetOutReferenceIdeal.Value.run m' g'
    rw [Cert.RetOutReferenceIdeal.Read.val_main_v13_eq]
    exact (Cert.RetOutIdeal.Call.final m c).symm

/-- The reference of the attention's output projection runs, leaves its arguments as they were and every semaphore at zero. -/
theorem diff_out_frame : Cert.quiescent_DiffOutReferenceIdeal (hDiffOutReferenceIdeal := Cert.DiffOutReferenceIdeal.Gen.facts) := fun m g _ =>
  (θ_run Cert.DiffOutReferenceIdeal.defs _ _).mono
    (fun r h => ⟨fun c => (h c).2, Idealize.ShloMosaic.sem_eq_zero_of_no_sems (by decide) r.2⟩)
    (Cert.DiffOutReferenceIdeal.Value.run (F := Ideal) m g)

/-- The attention's output projection and its reference end with the same result. -/
theorem diff_out : Cert.algebraic_DiffOutIdeal_DiffOutReferenceIdeal
    (hDiffOutIdeal := Cert.DiffOutIdeal.Gen.facts) (hDiffOutReferenceIdeal := Cert.DiffOutReferenceIdeal.Gen.facts) := by
  pair_intro
  · run_from Cert.DiffOutIdeal.Gen.run_main m g
  · run_from Cert.DiffOutReferenceIdeal.Value.run m' g'
    rw [Cert.DiffOutReferenceIdeal.Read.val_main_v15_eq]
    exact (Cert.DiffOutIdeal.Call.final m c).symm

/-- The reference of the mixer's output projection runs, leaves its arguments as they were and every semaphore at zero. -/
theorem mix_out_frame : Cert.quiescent_MixOutReferenceIdeal (hMixOutReferenceIdeal := Cert.MixOutReferenceIdeal.Gen.facts) := fun m g _ =>
  (θ_run Cert.MixOutReferenceIdeal.defs _ _).mono
    (fun r h => ⟨fun c => (h c).2, Idealize.ShloMosaic.sem_eq_zero_of_no_sems (by decide) r.2⟩)
    (Cert.MixOutReferenceIdeal.Value.run (F := Ideal) m g)

/-- The mixer's output projection and its reference end with the same result. -/
theorem mix_out : Cert.algebraic_MixOutIdeal_MixOutReferenceIdeal
    (hMixOutIdeal := Cert.MixOutIdeal.Gen.facts) (hMixOutReferenceIdeal := Cert.MixOutReferenceIdeal.Gen.facts) := by
  pair_intro
  · run_from Cert.MixOutIdeal.Gen.run_main m g
  · run_from Cert.MixOutReferenceIdeal.Value.run m' g'
    exact (Cert.MixOutReferenceIdeal.Read.val_main_v8_eq _ _ _ _).trans (Cert.MixOutIdeal.Call.final m c).symm

/-- The reference of the shared expert's first layer runs, leaves its arguments as they were and every semaphore at zero. -/
theorem shared_up_frame : Cert.quiescent_SharedUpReferenceIdeal (hSharedUpReferenceIdeal := Cert.SharedUpReferenceIdeal.Gen.facts) := fun m g _ =>
  (θ_run Cert.SharedUpReferenceIdeal.defs _ _).mono
    (fun r h => ⟨fun c => (h c).2, Idealize.ShloMosaic.sem_eq_zero_of_no_sems (by decide) r.2⟩)
    (Cert.SharedUpReferenceIdeal.Value.run (F := Ideal) m g)

/-- The shared expert's first layer and its reference end with the same result. -/
theorem shared_up : Cert.algebraic_SharedUpIdeal_SharedUpReferenceIdeal
    (hSharedUpIdeal := Cert.SharedUpIdeal.Gen.facts) (hSharedUpReferenceIdeal := Cert.SharedUpReferenceIdeal.Gen.facts) := by
  pair_intro
  · run_from Cert.SharedUpIdeal.Gen.run_main m g
  · run_from Cert.SharedUpReferenceIdeal.Value.run m' g'
    rw [Cert.SharedUpReferenceIdeal.Read.val_main_v7_eq]
    exact (Cert.SharedUpIdeal.Call.final m c).symm

/-- The reference of the shared expert's second layer with the final norm runs, leaves its arguments as they were and every semaphore at zero. -/
theorem final_frame : Cert.quiescent_FinalReferenceIdeal (hFinalReferenceIdeal := Cert.FinalReferenceIdeal.Gen.facts) := fun m g _ =>
  (θ_run Cert.FinalReferenceIdeal.defs _ _).mono
    (fun r h => ⟨fun c => (h c).2, Idealize.ShloMosaic.sem_eq_zero_of_no_sems (by decide) r.2⟩)
    (Cert.FinalReferenceIdeal.Value.run (F := Ideal) m g)

/-- The shared expert's second layer with the final norm and its reference end with the same result. -/
theorem final : Cert.algebraic_FinalIdeal_FinalReferenceIdeal
    (hFinalIdeal := Cert.FinalIdeal.Gen.facts) (hFinalReferenceIdeal := Cert.FinalReferenceIdeal.Gen.facts) := by
  pair_intro
  · run_from Cert.FinalIdeal.Gen.run_main m g
  · run_from Cert.FinalReferenceIdeal.Value.run m' g'
    rw [Cert.FinalReferenceIdeal.Read.val_main_v23_eq]
    exact (Cert.FinalIdeal.Call.final m c).symm

/-- The reference of the context's projection runs, leaves its arguments as they were and every semaphore at zero. -/
theorem ctx_proj_frame : Cert.quiescent_CtxProjReferenceIdeal (hCtxProjReferenceIdeal := Cert.CtxProjReferenceIdeal.Gen.facts) := fun m g _ =>
  (θ_run Cert.CtxProjReferenceIdeal.defs _ _).mono
    (fun r h => ⟨fun c => (h c).2, Idealize.ShloMosaic.sem_eq_zero_of_no_sems (by decide) r.2⟩)
    (Cert.CtxProjReferenceIdeal.Value.run (F := Ideal) m g)

/-- The context's projection and its reference end with the same result. -/
theorem ctx_proj : Cert.algebraic_CtxProjIdeal_CtxProjReferenceIdeal
    (hCtxProjIdeal := Cert.CtxProjIdeal.Gen.facts) (hCtxProjReferenceIdeal := Cert.CtxProjReferenceIdeal.Gen.facts) := by
  pair_intro
  · run_from Cert.CtxProjIdeal.Gen.run_main m g
  · run_from Cert.CtxProjReferenceIdeal.Value.run m' g'
    rw [Cert.CtxProjReferenceIdeal.Read.val_main_v4_eq]
    exact (Cert.CtxProjIdeal.Call.final m c).symm

/-- The input projection's reference runs and leaves its arguments as they are. -/
theorem in_proj_frame : Cert.quiescent_InProjReferenceIdeal (hInProjReferenceIdeal := Cert.InProjReferenceIdeal.Gen.facts) := fun m g _ =>
  (θ_run Cert.InProjReferenceIdeal.defs _ _).mono
    (fun r h => ⟨fun c => (h c).2, Idealize.ShloMosaic.sem_eq_zero_of_no_sems (by decide) r.2⟩)
    (Cert.InProjReferenceIdeal.Value.run (F := Ideal) m g)

/-- The input projection and its reference end with the same result. -/
theorem in_proj : Cert.algebraic_InProjIdeal_InProjReferenceIdeal
    (hInProjIdeal := Cert.InProjIdeal.Gen.facts) (hInProjReferenceIdeal := Cert.InProjReferenceIdeal.Gen.facts) := by
  intro m g m' g' _ hagree
  refine ⟨fun c => Cert.InProjIdeal.Call.ref m c, Cert.InProjIdeal.Call.ends m g, ?_⟩
  refine (θ_run Cert.InProjReferenceIdeal.defs _ _).mono (fun r h c => ⟨?_, (h c).2⟩)
    (Cert.InProjReferenceIdeal.Value.run (F := Ideal) m' g')
  refine (h c).1.trans ((Cert.InProjReferenceIdeal.Read.val_main_v161_eq m' c).trans ?_)
  exact congrArg₂ (Cert.InProjReferenceIdeal.Read.val_main_v161 (F := Ideal)) (hagree c).1 (hagree c).2

/-- Everything that is claimed. -/
theorem claim : Cert.Claim := ⟨Cert.Kernel.Gen.facts, Cert.KernelIdeal.Gen.facts, Cert.ReferenceIdeal.Gen.facts,
  Cert.RetOut.Gen.facts, Cert.RetOutIdeal.Gen.facts, Cert.RetOutReferenceIdeal.Gen.facts,
  Cert.DiffOut.Gen.facts, Cert.DiffOutIdeal.Gen.facts, Cert.DiffOutReferenceIdeal.Gen.facts,
  Cert.MixOut.Gen.facts, Cert.MixOutIdeal.Gen.facts, Cert.MixOutReferenceIdeal.Gen.facts,
  Cert.SharedUp.Gen.facts, Cert.SharedUpIdeal.Gen.facts, Cert.SharedUpReferenceIdeal.Gen.facts,
  Cert.Final.Gen.facts, Cert.FinalIdeal.Gen.facts, Cert.FinalReferenceIdeal.Gen.facts,
  Cert.CtxProj.Gen.facts, Cert.CtxProjIdeal.Gen.facts, Cert.CtxProjReferenceIdeal.Gen.facts,
  Cert.InProj.Gen.facts, Cert.InProjIdeal.Gen.facts, Cert.InProjReferenceIdeal.Gen.facts,
  Cert.Pre_finite_scores.facts,
  fun m g _ => Cert.Kernel.Gen.frame m g, fun m g _ => Cert.KernelIdeal.Gen.frame m g,
  fun m g _ => Cert.KernelIdeal.Gen.frame m g, reference_frame, fun m g _ => reference_frame m g trivial,
  fun m g _ => Cert.RetOut.Gen.frame m g, fun m g _ => Cert.RetOutIdeal.Gen.frame m g, ret_out_frame,
  fun m g _ => Cert.DiffOut.Gen.frame m g, fun m g _ => Cert.DiffOutIdeal.Gen.frame m g, diff_out_frame,
  fun m g _ => Cert.MixOut.Gen.frame m g, fun m g _ => Cert.MixOutIdeal.Gen.frame m g, mix_out_frame,
  fun m g _ => Cert.SharedUp.Gen.frame m g, fun m g _ => Cert.SharedUpIdeal.Gen.frame m g, shared_up_frame,
  fun m g _ => Cert.Final.Gen.frame m g, fun m g _ => Cert.FinalIdeal.Gen.frame m g, final_frame,
  fun m g _ => Cert.CtxProj.Gen.frame m g, fun m g _ => Cert.CtxProjIdeal.Gen.frame m g, ctx_proj_frame,
  fun m g _ => Cert.InProj.Call.frame_holds m g, fun m g _ => Cert.InProjIdeal.Call.frame_holds m g, in_proj_frame,
  trivial, attention, trivial, ret_out, trivial, diff_out, trivial, mix_out, trivial, shared_up, trivial, final, trivial, ctx_proj,
  trivial, in_proj⟩

end Cert.Proof

end
